-- ==== Defs.lean ====
def Pre_Kernel [hPre_named : Cert.Pre_named.Facts] (m : (ℓ : Loc Cert.Kernel.nD Cert.Kernel.τ Cert.Kernel.sig) → Buf (Elt Bits) ℓ) : Prop :=
  ∀ c : Dev Cert.Kernel.nD,
    (Cert.Pre_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_named : Cert.Pre_named.Facts] (m : (ℓ : Loc Cert.KernelIdeal.nD Cert.KernelIdeal.τ Cert.KernelIdeal.sig) → Buf (Elt Ideal) ℓ) : Prop :=
  ∀ c : Dev Cert.KernelIdeal.nD,
    (Cert.Pre_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] [hPre_named : Cert.Pre_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_named : Cert.Pre_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_3)) (v2 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_3) = v1 c
          ∧ r.2.mem ((c.tc : Thread Cert.Kernel2Ideal.nD Cert.Kernel2Ideal.τ).loc Cert.Kernel2Ideal.main_v5_4) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_named : Cert.Pre_named.Facts) (hPre_routed : Cert.Pre_routed.Facts) (hPre_finite : Cert.Pre_finite.Facts),
    quiescent_Kernel (hKernel := hKernel) (hPre_named := hPre_named)
    ∧ quiescent_KernelIdeal (hKernelIdeal := hKernelIdeal) (hPre_named := hPre_named)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_finite.lean ====
abbrev S392x256 : Shape := ⟨2, ![392, 256]⟩
abbrev S256x16 : Shape := ⟨2, ![256, 16]⟩
abbrev S_ : Shape := ⟨0, ![]⟩

class Facts : Prop where
  bcast_S_S392x256 : S_.BroadcastsInDim S392x256 (![] : Fin 0 → Fin S392x256.rank)
  reducesTo_S392x256_S_d0_1 : S392x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S392x256 .f32) (main_arg1 : FVec F S256x16 .f32) (main_arg2 : FVec F S256x16 .f32) : IVec S_ 1 :=
  let main_v0 : FVec F S392x256 .f32 := Host.absf main_arg0
  let main_cst : FVec F S_ .f32 := constant S_ .f32 0x7F800000#32
  let main_v1 : FVec F S392x256 .f32 := broadcastInDim S392x256 ![] bcast_S_S392x256 main_cst
  let main_v2 : IVec S392x256 1 := cmpf .olt main_v0 main_v1
  let main_c : IVec S_ 1 := constantI S_ 1 1#1
  let main_v3 : IVec S_ 1 := (fun x v => Host.reduce IntOp.andi x v reducesTo_S392x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Pre_named.lean ====
abbrev S128 : Shape := ⟨1, ![128]⟩
abbrev S392x256 : Shape := ⟨2, ![392, 256]⟩
abbrev S8x256 : Shape := ⟨2, ![8, 256]⟩
abbrev S392x16 : Shape := ⟨2, ![392, 16]⟩
abbrev S8x16 : Shape := ⟨2, ![8, 16]⟩
abbrev S16x256x1024 : Shape := ⟨3, ![16, 256, 1024]⟩
abbrev S16x1x1024 : Shape := ⟨3, ![16, 1, 1024]⟩
abbrev S16x1024x256 : Shape := ⟨3, ![16, 1024, 256]⟩
abbrev S16x1x256 : Shape := ⟨3, ![16, 1, 256]⟩
abbrev S1x512 : Shape := ⟨2, ![1, 512]⟩
abbrev S1x1 : Shape := ⟨2, ![1, 1]⟩
abbrev S22 : Shape := ⟨1, ![22]⟩
abbrev S4 : Shape := ⟨1, ![4]⟩
abbrev S_ : Shape := ⟨0, ![]⟩

class Facts : Prop where
  slices_S128_S22_0 : S128.Slices ![0] S22
  slices_S128_S4_96 : S128.Slices ![96] S4
  bcast_S_S22 : S_.BroadcastsInDim S22 (![] : Fin 0 → Fin S22.rank)
  reducesTo_S22_S_d0 : S22.ReducesTo [0] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : IVec S128 32) (main_arg1 : FVec F S392x256 .f32) (main_arg2 : FVec F S392x256 .f32) (main_arg3 : FVec F S8x256 .f32) (main_arg4 : FVec F S392x16 .f32) (main_arg5 : FVec F S392x16 .f32) (main_arg6 : FVec F S8x16 .f32) (main_arg7 : FVec F S16x256x1024 .f32) (main_arg8 : FVec F S16x1x1024 .f32) (main_arg9 : FVec F S16x1024x256 .f32) (main_arg10 : FVec F S16x1x256 .f32) (main_arg11 : FVec F S16x256x1024 .f32) (main_arg12 : FVec F S16x1x1024 .f32) (main_arg13 : FVec F S16x1024x256 .f32) (main_arg14 : FVec F S16x1x256 .f32) (main_arg15 : FVec F S1x512 .f32) (main_arg16 : FVec F S1x1 .f32) (main_arg17 : FVec F S1x512 .f32) (main_arg18 : FVec F S1x1 .f32) : IVec S_ 1 :=
  let main_v0 : IVec S22 32 := (extractStridedSlice S22 ![0] · slices_S128_S22_0) main_arg0
  let main_v1 : IVec S4 32 := (extractStridedSlice S4 ![96] · slices_S128_S4_96) main_arg0
  let main_c : IVec S_ 32 := constantI S_ 32 0#32
  let main_v2 : IVec S22 32 := broadcastInDim S22 ![] bcast_S_S22 main_c
  let main_v3 : IVec S22 1 := cmpi .sge main_v0 main_v2
  let main_c_0 : IVec S_ 32 := constantI S_ 32 16#32
  let main_v4 : IVec S22 32 := broadcastInDim S22 ![] bcast_S_S22 main_c_0
  let main_v5 : IVec S22 1 := cmpi .slt main_v0 main_v4
  let main_v6 : IVec S22 1 := andi main_v3 main_v5
  let main_c_1 : IVec S_ 1 := constantI S_ 1 1#1
  let main_v7 : IVec S_ 1 := (fun x v => Host.reduce IntOp.andi x v reducesTo_S22_S_d0 h_S_) main_v6 main_c_1
  let main_c_2 : IVec S_ 32 := constantI S_ 32 0#32
  let main_v8 : IVec S4 32 := broadcastInDim S4 ![] bcast_S_S4 main_c_2
  let main_v9 : IVec S4 1 := cmpi .sge main_v1 main_v8
  let main_c_3 : IVec S_ 32 := constantI S_ 32 16#32
  let main_v10 : IVec S4 32 := broadcastInDim S4 ![] bcast_S_S4 main_c_3
  let main_v11 : IVec S4 1 := cmpi .slt main_v1 main_v10
  let main_v12 : IVec S4 1 := andi main_v9 main_v11
  let main_c_4 : IVec S_ 1 := constantI S_ 1 1#1
  let main_v13 : IVec S_ 1 := (fun x v => Host.reduce IntOp.andi x v reducesTo_S4_S_d0 h_S_) main_v12 main_c_4
  let main_v14 : IVec S_ 1 := andi main_v7 main_v13
  main_v14
-- ==== Pre_routed.lean ====
abbrev S128 : Shape := ⟨1, ![128]⟩
abbrev S392x256 : Shape := ⟨2, ![392, 256]⟩
abbrev S8x256 : Shape := ⟨2, ![8, 256]⟩
abbrev S392x16 : Shape := ⟨2, ![392, 16]⟩
abbrev S8x16 : Shape := ⟨2, ![8, 16]⟩
abbrev S16x256x1024 : Shape := ⟨3, ![16, 256, 1024]⟩
abbrev S16x1x1024 : Shape := ⟨3, ![16, 1, 1024]⟩
abbrev S16x1024x256 : Shape := ⟨3, ![16, 1024, 256]⟩
abbrev S16x1x256 : Shape := ⟨3, ![16, 1, 256]⟩
abbrev S1x512 : Shape := ⟨2, ![1, 512]⟩
abbrev S1x1 : Shape := ⟨2, ![1, 1]⟩
abbrev S22 : Shape := ⟨1, ![22]⟩
abbrev S4 : Shape := ⟨1, ![4]⟩
abbrev S1 : Shape := ⟨1, ![1]⟩
abbrev S_ : Shape := ⟨0, ![]⟩
abbrev S392 : Shape := ⟨1, ![392]⟩
abbrev S1x1x22 : Shape := ⟨3, ![1, 1, 22]⟩
abbrev S16 : Shape := ⟨1, ![16]⟩
abbrev S1x16x1 : Shape := ⟨3, ![1, 16, 1]⟩
abbrev S1x16x22 : Shape := ⟨3, ![1, 16, 22]⟩
abbrev S392x16x1 : Shape := ⟨3, ![392, 16, 1]⟩
abbrev S392x16x22 : Shape := ⟨3, ![392, 16, 22]⟩
abbrev S392x1 : Shape := ⟨2, ![392, 1]⟩
abbrev S1x392 : Shape := ⟨2, ![1, 392]⟩
abbrev S392x392 : Shape := ⟨2, ![392, 392]⟩
abbrev S392x392x1 : Shape := ⟨3, ![392, 392, 1]⟩
abbrev S392x1x16 : Shape := ⟨3, ![392, 1, 16]⟩
abbrev S392x392x16 : Shape := ⟨3, ![392, 392, 16]⟩
abbrev S1x392x16 : Shape := ⟨3, ![1, 392, 16]⟩
abbrev S1x4 : Shape := ⟨2, ![1, 4]⟩
abbrev S16x1 : Shape := ⟨2, ![16, 1]⟩
abbrev S16x4 : Shape := ⟨2, ![16, 4]⟩
abbrev S2x16 : Shape := ⟨2, ![2, 16]⟩
abbrev S1x16 : Shape := ⟨2, ![1, 16]⟩

class Facts : Prop where
  slices_S128_S22_0 : S128.Slices ![0] S22
  slices_S128_S22_32 : S128.Slices ![32] S22
  slices_S128_S22_64 : S128.Slices ![64] S22
  slices_S128_S4_96 : S128.Slices ![96] S4
  slices_S128_S1_100 : S128.Slices ![100] S1
  shapeCasts_S1_S_ : S1.ShapeCasts S_
  bcast_S_S392x16 : S_.BroadcastsInDim S392x16 (![] : Fin 0 → Fin S392x16.rank)
  bcast_S_S22 : S_.BroadcastsInDim S22 (![] : Fin 0 → Fin S22.rank)
  reducesTo_S22_S_d0 : S22.ReducesTo [0] S_
  h_S_ : 0 < S_.numel
  bcast_S_S4 : S_.BroadcastsInDim S4 (![] : Fin 0 → Fin S4.rank)
  reducesTo_S4_S_d0 : S4.ReducesTo [0] S_
  bcast_S22_S1x1x22_2 : S22.BroadcastsInDim S1x1x22 (![2] : Fin 1 → Fin S1x1x22.rank)
  bcast_S16_S1x16x1_1 : S16.BroadcastsInDim S1x16x1 (![1] : Fin 1 → Fin S1x16x1.rank)
  bcast_S1x1x22_S1x16x22_0_1_2 : S1x1x22.BroadcastsInDim S1x16x22 (![0, 1, 2] : Fin 3 → Fin S1x16x22.rank)
  bcast_S1x16x1_S1x16x22_0_1_2 : S1x16x1.BroadcastsInDim S1x16x22 (![0, 1, 2] : Fin 3 → Fin S1x16x22.rank)
  bcast_S392x16_S392x16x1_0_1 : S392x16.BroadcastsInDim S392x16x1 (![0, 1] : Fin 2 → Fin S392x16x1.rank)
  bcast_S392x16x1_S392x16x22_0_1_2 : S392x16x1.BroadcastsInDim S392x16x22 (![0, 1, 2] : Fin 3 → Fin S392x16x22.rank)
  bcast_S1x1x22_S392x16x22_0_1_2 : S1x1x22.BroadcastsInDim S392x16x22 (![0, 1, 2] : Fin 3 → Fin S392x16x22.rank)
  bcast_S1x16x22_S392x16x22_0_1_2 : S1x16x22.BroadcastsInDim S392x16x22 (![0, 1, 2] : Fin 3 → Fin S392x16x22.rank)
  natLt_1_32 : 1 < 32
  reducesTo_S392x16x22_S392x16_d2 : S392x16x22.ReducesTo [2] S392x16
  reducesTo_S392x16_S_d0_1 : S392x16.ReducesTo [0, 1] S_
  bcast_S392_S392x1_0 : S392.BroadcastsInDim S392x1 (![0] : Fin 1 → Fin S392x1.rank)
  bcast_S392_S1x392_1 : S392.BroadcastsInDim S1x392 (![1] : Fin 1 → Fin S1x392.rank)
  bcast_S392x1_S392x392_0_1 : S392x1.BroadcastsInDim S392x392 (![0, 1] : Fin 2 → Fin S392x392.rank)
  bcast_S1x392_S392x392_0_1 : S1x392.BroadcastsInDim S392x392 (![0, 1] : Fin 2 → Fin S392x392.rank)
  bcast_S392x392_S392x392x1_0_1 : S392x392.BroadcastsInDim S392x392x1 (![0, 1] : Fin 2 → Fin S392x392x1.rank)
  bcast_S392x16_S392x1x16_0_2 : S392x16.BroadcastsInDim S392x1x16 (![0, 2] : Fin 2 → Fin S392x1x16.rank)
  bcast_S392x392x1_S392x392x16_0_1_2 : S392x392x1.BroadcastsInDim S392x392x16 (![0, 1, 2] : Fin 3 → Fin S392x392x16.rank)
  bcast_S392x1x16_S392x392x16_0_1_2 : S392x1x16.BroadcastsInDim S392x392x16 (![0, 1, 2] : Fin 3 → Fin S392x392x16.rank)
  bcast_S392x16_S1x392x16_1_2 : S392x16.BroadcastsInDim S1x392x16 (![1, 2] : Fin 2 → Fin S1x392x16.rank)
  bcast_S1x392x16_S392x392x16_0_1_2 : S1x392x16.BroadcastsInDim S392x392x16 (![0, 1, 2] : Fin 3 → Fin S392x392x16.rank)
  reducesTo_S392x392x16_S_d0_1_2 : S392x392x16.ReducesTo [0, 1, 2] S_
  bcast_S4_S1x4_1 : S4.BroadcastsInDim S1x4 (![1] : Fin 1 → Fin S1x4.rank)
  bcast_S16_S16x1_0 : S16.BroadcastsInDim S16x1 (![0] : Fin 1 → Fin S16x1.rank)
  bcast_S1x4_S16x4_0_1 : S1x4.BroadcastsInDim S16x4 (![0, 1] : Fin 2 → Fin S16x4.rank)
  bcast_S16x1_S16x4_0_1 : S16x1.BroadcastsInDim S16x4 (![0, 1] : Fin 2 → Fin S16x4.rank)
  slices_S8x16_S2x16_0_0 : S8x16.Slices ![0, 0] S2x16
  bcast_S_S2x16 : S_.BroadcastsInDim S2x16 (![] : Fin 0 → Fin S2x16.rank)
  reducesTo_S16x4_S16_d1 : S16x4.ReducesTo [1] S16
  bcast_S_S16 : S_.BroadcastsInDim S16 (![] : Fin 0 → Fin S16.rank)
  bcast_S16_S1x16_1 : S16.BroadcastsInDim S1x16 (![1] : Fin 1 → Fin S1x16.rank)
  bcast_S1x16_S2x16_0_1 : S1x16.BroadcastsInDim S2x16 (![0, 1] : Fin 2 → Fin S2x16.rank)
  reducesTo_S2x16_S_d0_1 : S2x16.ReducesTo [0, 1] S_

variable [Facts]

def fn_part5 {F : FTy → Type} [FloatOps F] (main_v98 : IVec S_ 1) (main_v101 : IVec S_ 1) : IVec S_ 1 :=
  let main_v102 : IVec S_ 1 := andi main_v101 main_v98
  main_v102

def fn_part4 {F : FTy → Type} [FloatOps F] (main_arg6 : FVec F S8x16 .f32) (main_v5 : IVec S_ 32) (main_v22 : IVec S_ 1) (main_v54 : IVec S_ 1) (main_v58 : IVec S_ 1) (main_v75 : IVec S_ 1) (main_v81 : IVec S16x4 1) : IVec S_ 1 :=
  let main_v82 : IVec S4 32 := iotaInDim S4 32 0
  let main_v83 : IVec S4 32 := broadcastInDim S4 ![] bcast_S_S4 main_v5
  let main_v84 : IVec S4 1 := cmpi .slt main_v82 main_v83
  let main_v85 : IVec S1x4 1 := broadcastInDim S1x4 ![1] bcast_S4_S1x4_1 main_v84
  let main_v86 : IVec S16x4 1 := broadcastInDim S16x4 ![0, 1] bcast_S1x4_S16x4_0_1 main_v85
  let main_v87 : IVec S16x4 1 := andi main_v81 main_v86
  let main_v88 : FVec F S2x16 .f32 := (extractStridedSlice S2x16 ![0, 0] · slices_S8x16_S2x16_0_0) main_arg6
  let main_cst_12 : FVec F S_ .f32 := constant S_ .f32 0x00000000#32
  let main_v89 : FVec F S2x16 .f32 := broadcastInDim S2x16 ![] bcast_S_S2x16 main_cst_12
  let main_v90 : IVec S2x16 1 := cmpf .oeq main_v88 main_v89
  let main_v91 : IVec S16x4 32 := (extui 32 · natLt_1_32) main_v87
  let main_c_13 : IVec S_ 32 := constantI S_ 32 0#32
  let main_v92 : IVec S16 32 := (fun x v => Host.reduce IntOp.addi x v reducesTo_S16x4_S16_d1 h_S_) main_v91 main_c_13
  let main_c_14 : IVec S_ 32 := constantI S_ 32 1#32
  let main_v93 : IVec S16 32 := broadcastInDim S16 ![] bcast_S_S16 main_c_14
  let main_v94 : IVec S16 1 := cmpi .eq main_v92 main_v93
  let main_v95 : IVec S1x16 1 := broadcastInDim S1x16 ![1] bcast_S16_S1x16_1 main_v94
  let main_v96 : IVec S2x16 1 := broadcastInDim S2x16 ![0, 1] bcast_S1x16_S2x16_0_1 main_v95
  let main_v97 : IVec S2x16 1 := ori main_v90 main_v96
  let main_c_15 : IVec S_ 1 := constantI S_ 1 1#1
  let main_v98 : IVec S_ 1 := (fun x v => Host.reduce IntOp.andi x v reducesTo_S2x16_S_d0_1 h_S_) main_v97 main_c_15
  let main_v99 : IVec S_ 1 := andi main_v22 main_v54
  let main_v100 : IVec S_ 1 := andi main_v99 main_v58
  let main_v101 : IVec S_ 1 := andi main_v100 main_v75
  fn_part5 (F := F) main_v98 main_v101

def fn_part3 {F : FTy → Type} [FloatOps F] (main_arg5 : FVec F S392x16 .f32) (main_arg6 : FVec F S8x16 .f32) (main_v3 : IVec S4 32) (main_v5 : IVec S_ 32) (main_v7 : IVec S392 32) (main_v9 : IVec S392x16 1) (main_v22 : IVec S_ 1) (main_v54 : IVec S_ 1) (main_v58 : IVec S_ 1) : IVec S_ 1 :=
  let main_v59 : IVec S392x1 32 := broadcastInDim S392x1 ![0] bcast_S392_S392x1_0 main_v7
  let main_v60 : IVec S1x392 32 := broadcastInDim S1x392 ![1] bcast_S392_S1x392_1 main_v7
  let main_v61 : IVec S392x392 32 := broadcastInDim S392x392 ![0, 1] bcast_S392x1_S392x392_0_1 main_v59
  let main_v62 : IVec S392x392 32 := broadcastInDim S392x392 ![0, 1] bcast_S1x392_S392x392_0_1 main_v60
  let main_v63 : IVec S392x392 1 := cmpi .eq main_v61 main_v62
  let main_v64 : IVec S392x392x1 1 := broadcastInDim S392x392x1 ![0, 1] bcast_S392x392_S392x392x1_0_1 main_v63
  let main_v65 : IVec S392x1x16 1 := broadcastInDim S392x1x16 ![0, 2] bcast_S392x16_S392x1x16_0_2 main_v9
  let main_v66 : IVec S392x392x16 1 := broadcastInDim S392x392x16 ![0, 1, 2] bcast_S392x392x1_S392x392x16_0_1_2 main_v64
  let main_v67 : IVec S392x392x16 1 := broadcastInDim S392x392x16 ![0, 1, 2] bcast_S392x1x16_S392x392x16_0_1_2 main_v65
  let main_v68 : IVec S392x392x16 1 := ori main_v66 main_v67
  let main_v69 : FVec F S392x1x16 .f32 := broadcastInDim S392x1x16 ![0, 2] bcast_S392x16_S392x1x16_0_2 main_arg5
  let main_v70 : FVec F S1x392x16 .f32 := broadcastInDim S1x392x16 ![1, 2] bcast_S392x16_S1x392x16_1_2 main_arg5
  let main_v71 : FVec F S392x392x16 .f32 := broadcastInDim S392x392x16 ![0, 1, 2] bcast_S392x1x16_S392x392x16_0_1_2 main_v69
  let main_v72 : FVec F S392x392x16 .f32 := broadcastInDim S392x392x16 ![0, 1, 2] bcast_S1x392x16_S392x392x16_0_1_2 main_v70
  let main_v73 : IVec S392x392x16 1 := cmpf .une main_v71 main_v72
  let main_v74 : IVec S392x392x16 1 := ori main_v68 main_v73
  let main_c_11 : IVec S_ 1 := constantI S_ 1 1#1
  let main_v75 : IVec S_ 1 := (fun x v => Host.reduce IntOp.andi x v reducesTo_S392x392x16_S_d0_1_2 h_S_) main_v74 main_c_11
  let main_v76 : IVec S1x4 32 := broadcastInDim S1x4 ![1] bcast_S4_S1x4_1 main_v3
  let main_v77 : IVec S16 32 := iotaInDim S16 32 0
  let main_v78 : IVec S16x1 32 := broadcastInDim S16x1 ![0] bcast_S16_S16x1_0 main_v77
  let main_v79 : IVec S16x4 32 := broadcastInDim S16x4 ![0, 1] bcast_S1x4_S16x4_0_1 main_v76
  let main_v80 : IVec S16x4 32 := broadcastInDim S16x4 ![0, 1] bcast_S16x1_S16x4_0_1 main_v78
  let main_v81 : IVec S16x4 1 := cmpi .eq main_v79 main_v80
  fn_part4 (F := F) main_arg6 main_v5 main_v22 main_v54 main_v58 main_v75 main_v81

def fn_part2 {F : FTy → Type} [FloatOps F] (main_arg5 : FVec F S392x16 .f32) (main_arg6 : FVec F S8x16 .f32) (main_v3 : IVec S4 32) (main_v5 : IVec S_ 32) (main_v6 : FVec F S22 .f32) (main_v7 : IVec S392 32) (main_v9 : IVec S392x16 1) (main_v22 : IVec S_ 1) (main_v38 : IVec S392x16x22 1) (main_v39 : IVec S392x16x22 1) : IVec S_ 1 :=
  let main_v40 : IVec S392x16x22 1 := andi main_v39 main_v38
  let main_v41 : FVec F S392x16x1 .f32 := broadcastInDim S392x16x1 ![0, 1] bcast_S392x16_S392x16x1_0_1 main_arg5
  let main_cst_6 : FVec F S_ .f32 := constant S_ .f32 0x43000000#32
  let main_v42 : FVec F S22 .f32 := broadcastInDim S22 ![] bcast_S_S22 main_cst_6
  let main_v43 : FVec F S22 .f32 := addf main_v6 main_v42
  let main_v44 : FVec F S1x1x22 .f32 := broadcastInDim S1x1x22 ![2] bcast_S22_S1x1x22_2 main_v43
  let main_v45 : FVec F S392x16x22 .f32 := broadcastInDim S392x16x22 ![0, 1, 2] bcast_S392x16x1_S392x16x22_0_1_2 main_v41
  let main_v46 : FVec F S392x16x22 .f32 := broadcastInDim S392x16x22 ![0, 1, 2] bcast_S1x1x22_S392x16x22_0_1_2 main_v44
  let main_v47 : IVec S392x16x22 1 := cmpf .olt main_v45 main_v46
  let main_v48 : IVec S392x16x22 1 := andi main_v40 main_v47
  let main_v49 : IVec S392x16x22 32 := (extui 32 · natLt_1_32) main_v48
  let main_c_7 : IVec S_ 32 := constantI S_ 32 0#32
  let main_v50 : IVec S392x16 32 := (fun x v => Host.reduce IntOp.addi x v reducesTo_S392x16x22_S392x16_d2 h_S_) main_v49 main_c_7
  let main_c_8 : IVec S_ 32 := constantI S_ 32 1#32
  let main_v51 : IVec S392x16 32 := broadcastInDim S392x16 ![] bcast_S_S392x16 main_c_8
  let main_v52 : IVec S392x16 1 := cmpi .eq main_v50 main_v51
  let main_v53 : IVec S392x16 1 := ori main_v9 main_v52
  let main_c_9 : IVec S_ 1 := constantI S_ 1 1#1
  let main_v54 : IVec S_ 1 := (fun x v => Host.reduce IntOp.andi x v reducesTo_S392x16_S_d0_1 h_S_) main_v53 main_c_9
  let main_v55 : FVec F S392x16 .f32 := Host.floor main_arg5
  let main_v56 : IVec S392x16 1 := cmpf .oeq main_v55 main_arg5
  let main_v57 : IVec S392x16 1 := ori main_v9 main_v56
  let main_c_10 : IVec S_ 1 := constantI S_ 1 1#1
  let main_v58 : IVec S_ 1 := (fun x v => Host.reduce IntOp.andi x v reducesTo_S392x16_S_d0_1 h_S_) main_v57 main_c_10
  fn_part3 (F := F) main_arg5 main_arg6 main_v3 main_v5 main_v7 main_v9 main_v22 main_v54 main_v58

def fn_part1 {F : FTy → Type} [FloatOps F] (main_arg5 : FVec F S392x16 .f32) (main_arg6 : FVec F S8x16 .f32) (main_v0 : IVec S22 32) (main_v2 : IVec S22 32) (main_v3 : IVec S4 32) (main_v5 : IVec S_ 32) (main_v6 : FVec F S22 .f32) (main_v7 : IVec S392 32) (main_v9 : IVec S392x16 1) (main_v15 : IVec S_ 1) (main_v17 : IVec S4 1) (main_c_3 : IVec S_ 32) : IVec S_ 1 :=
  let main_v18 : IVec S4 32 := broadcastInDim S4 ![] bcast_S_S4 main_c_3
  let main_v19 : IVec S4 1 := cmpi .slt main_v3 main_v18
  let main_v20 : IVec S4 1 := andi main_v17 main_v19
  let main_c_4 : IVec S_ 1 := constantI S_ 1 1#1
  let main_v21 : IVec S_ 1 := (fun x v => Host.reduce IntOp.andi x v reducesTo_S4_S_d0 h_S_) main_v20 main_c_4
  let main_v22 : IVec S_ 1 := andi main_v15 main_v21
  let main_v23 : IVec S1x1x22 32 := broadcastInDim S1x1x22 ![2] bcast_S22_S1x1x22_2 main_v0
  let main_v24 : IVec S16 32 := iotaInDim S16 32 0
  let main_v25 : IVec S1x16x1 32 := broadcastInDim S1x16x1 ![1] bcast_S16_S1x16x1_1 main_v24
  let main_v26 : IVec S1x16x22 32 := broadcastInDim S1x16x22 ![0, 1, 2] bcast_S1x1x22_S1x16x22_0_1_2 main_v23
  let main_v27 : IVec S1x16x22 32 := broadcastInDim S1x16x22 ![0, 1, 2] bcast_S1x16x1_S1x16x22_0_1_2 main_v25
  let main_v28 : IVec S1x16x22 1 := cmpi .eq main_v26 main_v27
  let main_c_5 : IVec S_ 32 := constantI S_ 32 1#32
  let main_v29 : IVec S22 32 := broadcastInDim S22 ![] bcast_S_S22 main_c_5
  let main_v30 : IVec S22 1 := cmpi .eq main_v2 main_v29
  let main_v31 : IVec S1x1x22 1 := broadcastInDim S1x1x22 ![2] bcast_S22_S1x1x22_2 main_v30
  let main_v32 : IVec S1x16x22 1 := broadcastInDim S1x16x22 ![0, 1, 2] bcast_S1x1x22_S1x16x22_0_1_2 main_v31
  let main_v33 : IVec S1x16x22 1 := andi main_v28 main_v32
  let main_v34 : FVec F S392x16x1 .f32 := broadcastInDim S392x16x1 ![0, 1] bcast_S392x16_S392x16x1_0_1 main_arg5
  let main_v35 : FVec F S1x1x22 .f32 := broadcastInDim S1x1x22 ![2] bcast_S22_S1x1x22_2 main_v6
  let main_v36 : FVec F S392x16x22 .f32 := broadcastInDim S392x16x22 ![0, 1, 2] bcast_S392x16x1_S392x16x22_0_1_2 main_v34
  let main_v37 : FVec F S392x16x22 .f32 := broadcastInDim S392x16x22 ![0, 1, 2] bcast_S1x1x22_S392x16x22_0_1_2 main_v35
  let main_v38 : IVec S392x16x22 1 := cmpf .oge main_v36 main_v37
  let main_v39 : IVec S392x16x22 1 := broadcastInDim S392x16x22 ![0, 1, 2] bcast_S1x16x22_S392x16x22_0_1_2 main_v33
  fn_part2 (F := F) main_arg5 main_arg6 main_v3 main_v5 main_v6 main_v7 main_v9 main_v22 main_v38 main_v39

def fn {F : FTy → Type} [FloatOps F] (main_arg0 : IVec S128 32) (main_arg1 : FVec F S392x256 .f32) (main_arg2 : FVec F S392x256 .f32) (main_arg3 : FVec F S8x256 .f32) (main_arg4 : FVec F S392x16 .f32) (main_arg5 : FVec F S392x16 .f32) (main_arg6 : FVec F S8x16 .f32) (main_arg7 : FVec F S16x256x1024 .f32) (main_arg8 : FVec F S16x1x1024 .f32) (main_arg9 : FVec F S16x1024x256 .f32) (main_arg10 : FVec F S16x1x256 .f32) (main_arg11 : FVec F S16x256x1024 .f32) (main_arg12 : FVec F S16x1x1024 .f32) (main_arg13 : FVec F S16x1024x256 .f32) (main_arg14 : FVec F S16x1x256 .f32) (main_arg15 : FVec F S1x512 .f32) (main_arg16 : FVec F S1x1 .f32) (main_arg17 : FVec F S1x512 .f32) (main_arg18 : FVec F S1x1 .f32) : IVec S_ 1 :=
  let main_v0 : IVec S22 32 := (extractStridedSlice S22 ![0] · slices_S128_S22_0) main_arg0
  let main_v1 : IVec S22 32 := (extractStridedSlice S22 ![32] · slices_S128_S22_32) main_arg0
  let main_v2 : IVec S22 32 := (extractStridedSlice S22 ![64] · slices_S128_S22_64) main_arg0
  let main_v3 : IVec S4 32 := (extractStridedSlice S4 ![96] · slices_S128_S4_96) main_arg0
  let main_v4 : IVec S1 32 := (extractStridedSlice S1 ![100] · slices_S128_S1_100) main_arg0
  let main_v5 : IVec S_ 32 := shapeCast S_ main_v4 shapeCasts_S1_S_
  let main_v6 : FVec F S22 .f32 := sitofp .f32 main_v1
  let main_v7 : IVec S392 32 := iotaInDim S392 32 0
  let main_cst : FVec F S_ .f32 := constant S_ .f32 0x00000000#32
  let main_v8 : FVec F S392x16 .f32 := broadcastInDim S392x16 ![] bcast_S_S392x16 main_cst
  let main_v9 : IVec S392x16 1 := cmpf .oeq main_arg4 main_v8
  let main_c : IVec S_ 32 := constantI S_ 32 0#32
  let main_v10 : IVec S22 32 := broadcastInDim S22 ![] bcast_S_S22 main_c
  let main_v11 : IVec S22 1 := cmpi .sge main_v0 main_v10
  let main_c_0 : IVec S_ 32 := constantI S_ 32 16#32
  let main_v12 : IVec S22 32 := broadcastInDim S22 ![] bcast_S_S22 main_c_0
  let main_v13 : IVec S22 1 := cmpi .slt main_v0 main_v12
  let main_v14 : IVec S22 1 := andi main_v11 main_v13
  let main_c_1 : IVec S_ 1 := constantI S_ 1 1#1
  let main_v15 : IVec S_ 1 := (fun x v => Host.reduce IntOp.andi x v reducesTo_S22_S_d0 h_S_) main_v14 main_c_1
  let main_c_2 : IVec S_ 32 := constantI S_ 32 0#32
  let main_v16 : IVec S4 32 := broadcastInDim S4 ![] bcast_S_S4 main_c_2
  let main_v17 : IVec S4 1 := cmpi .sge main_v3 main_v16
  let main_c_3 : IVec S_ 32 := constantI S_ 32 16#32
  fn_part1 (F := F) main_arg5 main_arg6 main_v0 main_v2 main_v3 main_v5 main_v6 main_v7 main_v9 main_v15 main_v17 main_c_3
-- ==== Kernel.lean ====
abbrev S128 : Shape := ⟨1, ![128]⟩
abbrev S392x256 : Shape := ⟨2, ![392, 256]⟩
abbrev S8x256 : Shape := ⟨2, ![8, 256]⟩
abbrev S392x16 : Shape := ⟨2, ![392, 16]⟩
abbrev S8x16 : Shape := ⟨2, ![8, 16]⟩
abbrev S16x256x1024 : Shape := ⟨3, ![16, 256, 1024]⟩
abbrev S16x1x1024 : Shape := ⟨3, ![16, 1, 1024]⟩
abbrev S16x1024x256 : Shape := ⟨3, ![16, 1024, 256]⟩
abbrev S16x1x256 : Shape := ⟨3, ![16, 1, 256]⟩
abbrev S1x512 : Shape := ⟨2, ![1, 512]⟩
abbrev S1x1 : Shape := ⟨2, ![1, 1]⟩
abbrev S1x256x1024 : Shape := ⟨3, ![1, 256, 1024]⟩
abbrev S1 : Shape := ⟨1, ![1]⟩
abbrev S1x1x1024 : Shape := ⟨3, ![1, 1, 1024]⟩
abbrev S1x1024x256 : Shape := ⟨3, ![1, 1024, 256]⟩
abbrev S1x1x256 : Shape := ⟨3, ![1, 1, 256]⟩
abbrev S392 : Shape := ⟨1, ![392]⟩
abbrev S392x1 : Shape := ⟨2, ![392, 1]⟩
abbrev S392x128 : Shape := ⟨2, ![392, 128]⟩
abbrev S128x256 : Shape := ⟨2, ![128, 256]⟩
abbrev S256x1024 : Shape := ⟨2, ![256, 1024]⟩
abbrev S128x1024 : Shape := ⟨2, ![128, 1024]⟩
abbrev S1x1024 : Shape := ⟨2, ![1, 1024]⟩
abbrev S1024x256 : Shape := ⟨2, ![1024, 256]⟩
abbrev S1x256 : Shape := ⟨2, ![1, 256]⟩
abbrev S8x1024 : Shape := ⟨2, ![8, 1024]⟩
abbrev S8 : Shape := ⟨1, ![8]⟩
abbrev S8x1 : Shape := ⟨2, ![8, 1]⟩

abbrev nBuf : Space → Nat
  | .hbm => 19
  | .vmem => 29
  | .smem => 1
  | _ => 0

abbrev bufTy : (tb : Table) → Fin (tcTables nBuf tb) → BufTy
  | .hbm, ⟨0, _⟩ => ⟨S392x256, .f32⟩
  | .hbm, ⟨1, _⟩ => ⟨S392x256, .f32⟩
  | .hbm, ⟨2, _⟩ => ⟨S8x256, .f32⟩
  | .hbm, ⟨3, _⟩ => ⟨S392x16, .f32⟩
  | .hbm, ⟨4, _⟩ => ⟨S392x16, .f32⟩
  | .hbm, ⟨5, _⟩ => ⟨S8x16, .f32⟩
  | .hbm, ⟨6, _⟩ => ⟨S16x256x1024, .f32⟩
  | .hbm, ⟨7, _⟩ => ⟨S16x1x1024, .f32⟩
  | .hbm, ⟨8, _⟩ => ⟨S16x1024x256, .f32⟩
  | .hbm, ⟨9, _⟩ => ⟨S16x1x256, .f32⟩
  | .hbm, ⟨10, _⟩ => ⟨S16x256x1024, .f32⟩
  | .hbm, ⟨11, _⟩ => ⟨S16x1x1024, .f32⟩
  | .hbm, ⟨12, _⟩ => ⟨S16x1024x256, .f32⟩
  | .hbm, ⟨13, _⟩ => ⟨S16x1x256, .f32⟩
  | .hbm, ⟨14, _⟩ => ⟨S1x512, .f32⟩
  | .hbm, ⟨15, _⟩ => ⟨S1x1, .f32⟩
  | .hbm, ⟨16, _⟩ => ⟨S1x512, .f32⟩
  | .hbm, ⟨17, _⟩ => ⟨S1x1, .f32⟩
  | .hbm, ⟨18, _⟩ => ⟨S392x256, .f32⟩
  | .local _ .vmem, ⟨0, _⟩ => ⟨S392x256, .f32⟩
  | .local _ .vmem, ⟨1, _⟩ => ⟨S392x256, .f32⟩
  | .local _ .vmem, ⟨2, _⟩ => ⟨S8x256, .f32⟩
  | .local _ .vmem, ⟨3, _⟩ => ⟨S392x16, .f32⟩
  | .local _ .vmem, ⟨4, _⟩ => ⟨S392x16, .f32⟩
  | .local _ .vmem, ⟨5, _⟩ => ⟨S8x16, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1x256, .f32⟩
  | .local _ .vmem, ⟨13, _⟩ => ⟨S1x1x256, .f32⟩
  | .local _ .vmem, ⟨14, _⟩ => ⟨S1x256x1024, .f32⟩
  | .local _ .vmem, ⟨15, _⟩ => ⟨S1x256x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x256, .f32⟩
  | .local _ .vmem, ⟨19, _⟩ => ⟨S1x1024x256, .f32⟩
  | .local _ .vmem, ⟨20, _⟩ => ⟨S1x1x256, .f32⟩
  | .local _ .vmem, ⟨21, _⟩ => ⟨S1x1x256, .f32⟩
  | .local _ .vmem, ⟨22, _⟩ => ⟨S1x512, .f32⟩
  | .local _ .vmem, ⟨23, _⟩ => ⟨S1x1, .f32⟩
  | .local _ .vmem, ⟨24, _⟩ => ⟨S1x512, .f32⟩
  | .local _ .vmem, ⟨25, _⟩ => ⟨S1x1, .f32⟩
  | .local _ .vmem, ⟨26, _⟩ => ⟨S392x256, .f32⟩
  | .local _ .vmem, ⟨27, _⟩ => ⟨S392x256, .f32⟩
  | .local _ .vmem, ⟨28, _⟩ => ⟨S8x256, .f32⟩
  | .local _ .smem, ⟨0, _⟩ => ⟨S128, .i32⟩
  | _, _ => ⟨S392x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_v0 : Ref sig .tc := ⟨.hbm, 18, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![26], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c21_i32 : BitVec 32 := 21#32
  let v0 : BitVec 32 := Scalar.minsi arg0 c21_i32
  let v1 : Index := Scalar.indexCast v0
  ![v1.toNat]
def k0_off2 (i : grid0.Coords) : Fin 1 → Nat :=
  let c96_i32 : BitVec 32 := 96#32
  let c3_i32 : BitVec 32 := 3#32
  let c0_i32 : BitVec 32 := 0#32
  let arg0 : BitVec 32 := BitVec.ofNat 32 (i 0).val
  let c22_i32 : BitVec 32 := 22#32
  let v0 : BitVec 32 := Scalar.subi arg0 c22_i32
  let v1 : BitVec 32 := Scalar.maxsi c0_i32 v0
  let v2 : BitVec 32 := Scalar.minsi c3_i32 v1
  let v3 : BitVec 32 := Scalar.addi c96_i32 v2
  let v4 : Index := Scalar.indexCast v3
  ![v4.toNat]
def k0_off3 (i : grid0.Coords) : Fin 1 → Nat :=
  let c64_i32 : BitVec 32 := 64#32
  let arg0 : BitVec 32 := BitVec.ofNat 32 (i 0).val
  let c21_i32 : BitVec 32 := 21#32
  let v3 : BitVec 32 := Scalar.minsi arg0 c21_i32
  let v4 : BitVec 32 := Scalar.addi c64_i32 v3
  let v5 : Index := Scalar.indexCast v4
  ![v5.toNat]
def k0_off4 (i : grid0.Coords) : Fin 1 → Nat :=
  let arg0 : BitVec 32 := BitVec.ofNat 32 (i 0).val
  let c21_i32_8 : BitVec 32 := 21#32
  let v28 : BitVec 32 := Scalar.minsi arg0 c21_i32_8
  let v29 : Index := Scalar.indexCast v28
  ![v29.toNat]
def k0_off5 (i : grid0.Coords) : Fin 1 → Nat :=
  let c32_i32 : BitVec 32 := 32#32
  let arg0 : BitVec 32 := BitVec.ofNat 32 (i 0).val
  let c21_i32_9 : BitVec 32 := 21#32
  let v31 : BitVec 32 := Scalar.minsi arg0 c21_i32_9
  let v32 : BitVec 32 := Scalar.addi c32_i32 v31
  let v33 : Index := Scalar.indexCast v32
  ![v33.toNat]
def k0_off6 (i : grid0.Coords) : Fin 1 → Nat :=
  let c96_i32 : BitVec 32 := 96#32
  let c3_i32 : BitVec 32 := 3#32
  let c0_i32_3 : BitVec 32 := 0#32
  let arg0 : BitVec 32 := BitVec.ofNat 32 (i 0).val
  let c22_i32_2 : BitVec 32 := 22#32
  let v13 : BitVec 32 := Scalar.subi arg0 c22_i32_2
  let v14 : BitVec 32 := Scalar.maxsi c0_i32_3 v13
  let v15 : BitVec 32 := Scalar.minsi c3_i32 v14
  let v16 : BitVec 32 := Scalar.addi c96_i32 v15
  let v17 : Index := Scalar.indexCast v16
  ![v17.toNat]
def k0_cond4 (i : grid0.Coords) : BitVec 1 :=
  let arg0 : BitVec 32 := BitVec.ofNat 32 (i 0).val
  let c25_i32 : BitVec 32 := 25#32
  let v25 : BitVec 1 := Scalar.cmpi .eq arg0 c25_i32
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c21_i32 : BitVec 32 := 21#32
  let v0 : BitVec 32 := Scalar.minsi arg0 c21_i32
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_7 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c21_i32 : BitVec 32 := 21#32
  let v0 : BitVec 32 := Scalar.minsi arg0 c21_i32
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_8 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c21_i32 : BitVec 32 := 21#32
  let v0 : BitVec 32 := Scalar.minsi arg0 c21_i32
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_9 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c21_i32 : BitVec 32 := 21#32
  let v0 : BitVec 32 := Scalar.minsi arg0 c21_i32
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_10 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c22_i32 : BitVec 32 := 22#32
  let v0 : BitVec 32 := Scalar.subi arg0 c22_i32
  let c0_i32 : BitVec 32 := 0#32
  let c3_i32 : BitVec 32 := 3#32
  let v1 : BitVec 32 := Scalar.maxsi c0_i32 v0
  let v2 : BitVec 32 := Scalar.minsi c3_i32 v1
  let c96_i32 : BitVec 32 := 96#32
  let v3 : BitVec 32 := Scalar.addi c96_i32 v2
  let v4 : Index := Scalar.indexCast v3
  let v5 : BitVec 32 := pf.at 0 (Rect.unit (s := S128) ![v4.toNat] S1.size (k0_off2_inb i)) numel1_S1
  let c0_i32_0 : BitVec 32 := 0#32
  let c0_i32_1 : BitVec 32 := 0#32
  let c0_i32_2 : BitVec 32 := 0#32
  ![v5.toNat, c0_i32_0.toNat, c0_i32_1.toNat]

def cc0_transform_11 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c22_i32 : BitVec 32 := 22#32
  let v0 : BitVec 32 := Scalar.subi arg0 c22_i32
  let c0_i32 : BitVec 32 := 0#32
  let c3_i32 : BitVec 32 := 3#32
  let v1 : BitVec 32 := Scalar.maxsi c0_i32 v0
  let v2 : BitVec 32 := Scalar.minsi c3_i32 v1
  let c96_i32 : BitVec 32 := 96#32
  let v3 : BitVec 32 := Scalar.addi c96_i32 v2
  let v4 : Index := Scalar.indexCast v3
  let v5 : BitVec 32 := pf.at 0 (Rect.unit (s := S128) ![v4.toNat] S1.size (k0_off2_inb i)) numel1_S1
  let c0_i32_0 : BitVec 32 := 0#32
  let c0_i32_1 : BitVec 32 := 0#32
  let c0_i32_2 : BitVec 32 := 0#32
  ![v5.toNat, c0_i32_0.toNat, c0_i32_1.toNat]

def cc0_transform_12 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c22_i32 : BitVec 32 := 22#32
  let v0 : BitVec 32 := Scalar.subi arg0 c22_i32
  let c0_i32 : BitVec 32 := 0#32
  let c3_i32 : BitVec 32 := 3#32
  let v1 : BitVec 32 := Scalar.maxsi c0_i32 v0
  let v2 : BitVec 32 := Scalar.minsi c3_i32 v1
  let c96_i32 : BitVec 32 := 96#32
  let v3 : BitVec 32 := Scalar.addi c96_i32 v2
  let v4 : Index := Scalar.indexCast v3
  let v5 : BitVec 32 := pf.at 0 (Rect.unit (s := S128) ![v4.toNat] S1.size (k0_off2_inb i)) numel1_S1
  let c0_i32_0 : BitVec 32 := 0#32
  let c0_i32_1 : BitVec 32 := 0#32
  let c0_i32_2 : BitVec 32 := 0#32
  ![v5.toNat, c0_i32_0.toNat, c0_i32_1.toNat]

def cc0_transform_13 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c22_i32 : BitVec 32 := 22#32
  let v0 : BitVec 32 := Scalar.subi arg0 c22_i32
  let c0_i32 : BitVec 32 := 0#32
  let c3_i32 : BitVec 32 := 3#32
  let v1 : BitVec 32 := Scalar.maxsi c0_i32 v0
  let v2 : BitVec 32 := Scalar.minsi c3_i32 v1
  let c96_i32 : BitVec 32 := 96#32
  let v3 : BitVec 32 := Scalar.addi c96_i32 v2
  let v4 : Index := Scalar.indexCast v3
  let v5 : BitVec 32 := pf.at 0 (Rect.unit (s := S128) ![v4.toNat] S1.size (k0_off2_inb i)) numel1_S1
  let c0_i32_0 : BitVec 32 := 0#32
  let c0_i32_1 : BitVec 32 := 0#32
  let c0_i32_2 : BitVec 32 := 0#32
  ![v5.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S392x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S392x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S392x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S392x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S392x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S128 : Shape := ⟨1, ![128]⟩
abbrev S392x256 : Shape := ⟨2, ![392, 256]⟩
abbrev S8x256 : Shape := ⟨2, ![8, 256]⟩
abbrev S392x16 : Shape := ⟨2, ![392, 16]⟩
abbrev S8x16 : Shape := ⟨2, ![8, 16]⟩
abbrev S16x256x1024 : Shape := ⟨3, ![16, 256, 1024]⟩
abbrev S16x1x1024 : Shape := ⟨3, ![16, 1, 1024]⟩
abbrev S16x1024x256 : Shape := ⟨3, ![16, 1024, 256]⟩
abbrev S16x1x256 : Shape := ⟨3, ![16, 1, 256]⟩
abbrev S1x512 : Shape := ⟨2, ![1, 512]⟩
abbrev S1x1 : Shape := ⟨2, ![1, 1]⟩
abbrev S2x256 : Shape := ⟨2, ![2, 256]⟩
abbrev S2x1x1x256 : Shape := ⟨4, ![2, 1, 1, 256]⟩
abbrev S2x16 : Shape := ⟨2, ![2, 16]⟩
abbrev S2x1x1x16 : Shape := ⟨4, ![2, 1, 1, 16]⟩
abbrev S2x1x1x16x1024 : Shape := ⟨5, ![2, 1, 1, 16, 1024]⟩
abbrev S16x1024 : Shape := ⟨2, ![16, 1024]⟩
abbrev S1x1x1x16x1024 : Shape := ⟨5, ![1, 1, 1, 16, 1024]⟩
abbrev S_ : Shape := ⟨0, ![]⟩
abbrev S16x256x2x1x1 : Shape := ⟨5, ![16, 256, 2, 1, 1]⟩
abbrev S2x1x1x16x256 : Shape := ⟨5, ![2, 1, 1, 16, 256]⟩
abbrev S16x256 : Shape := ⟨2, ![16, 256]⟩
abbrev S1x1x1x16x256 : Shape := ⟨5, ![1, 1, 1, 16, 256]⟩
abbrev S2x1x1x16x1 : Shape := ⟨5, ![2, 1, 1, 16, 1]⟩
abbrev S2x14x14x256 : Shape := ⟨4, ![2, 14, 14, 256]⟩
abbrev S2x14x14x16 : Shape := ⟨4, ![2, 14, 14, 16]⟩
abbrev S2x14x14x16x1024 : Shape := ⟨5, ![2, 14, 14, 16, 1024]⟩
abbrev S16x256x2x14x14 : Shape := ⟨5, ![16, 256, 2, 14, 14]⟩
abbrev S2x14x14x16x256 : Shape := ⟨5, ![2, 14, 14, 16, 256]⟩
abbrev S2x14x14x16x1 : Shape := ⟨5, ![2, 14, 14, 16, 1]⟩
abbrev S2x14x14x512 : Shape := ⟨4, ![2, 14, 14, 512]⟩
abbrev S2x14x14x1 : Shape := ⟨4, ![2, 14, 14, 1]⟩
abbrev S1 : Shape := ⟨1, ![1]⟩
abbrev S1x1x1x1 : Shape := ⟨4, ![1, 1, 1, 1]⟩
abbrev S2x14x14x2 : Shape := ⟨4, ![2, 14, 14, 2]⟩
abbrev S2x14x14 : Shape := ⟨3, ![2, 14, 14]⟩

abbrev nBuf : Space → Nat
  | .hbm => 118
  | .vmem => 0
  | .smem => 0
  | _ => 0

abbrev bufTy : (tb : Table) → Fin (tcTables nBuf tb) → BufTy
  | .hbm, ⟨0, _⟩ => ⟨S128, .i32⟩
  | .hbm, ⟨1, _⟩ => ⟨S392x256, .f32⟩
  | .hbm, ⟨2, _⟩ => ⟨S392x256, .f32⟩
  | .hbm, ⟨3, _⟩ => ⟨S8x256, .f32⟩
  | .hbm, ⟨4, _⟩ => ⟨S392x16, .f32⟩
  | .hbm, ⟨5, _⟩ => ⟨S392x16, .f32⟩
  | .hbm, ⟨6, _⟩ => ⟨S8x16, .f32⟩
  | .hbm, ⟨7, _⟩ => ⟨S16x256x1024, .f32⟩
  | .hbm, ⟨8, _⟩ => ⟨S16x1x1024, .f32⟩
  | .hbm, ⟨9, _⟩ => ⟨S16x1024x256, .f32⟩
  | .hbm, ⟨10, _⟩ => ⟨S16x1x256, .f32⟩
  | .hbm, ⟨11, _⟩ => ⟨S16x256x1024, .f32⟩
  | .hbm, ⟨12, _⟩ => ⟨S16x1x1024, .f32⟩
  | .hbm, ⟨13, _⟩ => ⟨S16x1024x256, .f32⟩
  | .hbm, ⟨14, _⟩ => ⟨S16x1x256, .f32⟩
  | .hbm, ⟨15, _⟩ => ⟨S1x512, .f32⟩
  | .hbm, ⟨16, _⟩ => ⟨S1x1, .f32⟩
  | .hbm, ⟨17, _⟩ => ⟨S1x512, .f32⟩
  | .hbm, ⟨18, _⟩ => ⟨S1x1, .f32⟩
  | .hbm, ⟨19, _⟩ => ⟨S2x256, .f32⟩
  | .hbm, ⟨20, _⟩ => ⟨S2x1x1x256, .f32⟩
  | .hbm, ⟨21, _⟩ => ⟨S2x16, .f32⟩
  | .hbm, ⟨22, _⟩ => ⟨S2x1x1x16, .f32⟩
  | .hbm, ⟨23, _⟩ => ⟨S2x1x1x16x1024, .f32⟩
  | .hbm, ⟨24, _⟩ => ⟨S16x1024, .f32⟩
  | .hbm, ⟨25, _⟩ => ⟨S1x1x1x16x1024, .f32⟩
  | .hbm, ⟨26, _⟩ => ⟨S2x1x1x16x1024, .f32⟩
  | .hbm, ⟨27, _⟩ => ⟨S2x1x1x16x1024, .f32⟩
  | .hbm, ⟨28, _⟩ => ⟨S_, .f32⟩
  | .hbm, ⟨29, _⟩ => ⟨S_, .f32⟩
  | .hbm, ⟨30, _⟩ => ⟨S2x1x1x16x1024, .f32⟩
  | .hbm, ⟨31, _⟩ => ⟨S2x1x1x16x1024, .i1⟩
  | .hbm, ⟨32, _⟩ => ⟨S_, .f32⟩
  | .hbm, ⟨33, _⟩ => ⟨S2x1x1x16x1024, .f32⟩
  | .hbm, ⟨34, _⟩ => ⟨S2x1x1x16x1024, .f32⟩
  | .hbm, ⟨35, _⟩ => ⟨S2x1x1x16x1024, .f32⟩
  | .hbm, ⟨36, _⟩ => ⟨S16x256x2x1x1, .f32⟩
  | .hbm, ⟨37, _⟩ => ⟨S2x1x1x16x256, .f32⟩
  | .hbm, ⟨38, _⟩ => ⟨S16x256, .f32⟩
  | .hbm, ⟨39, _⟩ => ⟨S1x1x1x16x256, .f32⟩
  | .hbm, ⟨40, _⟩ => ⟨S2x1x1x16x256, .f32⟩
  | .hbm, ⟨41, _⟩ => ⟨S2x1x1x16x256, .f32⟩
  | .hbm, ⟨42, _⟩ => ⟨S2x1x1x16x1, .f32⟩
  | .hbm, ⟨43, _⟩ => ⟨S2x1x1x16x256, .f32⟩
  | .hbm, ⟨44, _⟩ => ⟨S2x1x1x16x256, .f32⟩
  | .hbm, ⟨45, _⟩ => ⟨S_, .f32⟩
  | .hbm, ⟨46, _⟩ => ⟨S2x1x1x256, .f32⟩
  | .hbm, ⟨47, _⟩ => ⟨S2x14x14x256, .f32⟩
  | .hbm, ⟨48, _⟩ => ⟨S2x1x1x256, .f32⟩
  | .hbm, ⟨49, _⟩ => ⟨S2x1x1x256, .f32⟩
  | .hbm, ⟨50, _⟩ => ⟨S_, .f32⟩
  | .hbm, ⟨51, _⟩ => ⟨S2x1x1x256, .f32⟩
  | .hbm, ⟨52, _⟩ => ⟨S2x1x1x256, .f32⟩
  | .hbm, ⟨53, _⟩ => ⟨S_, .f32⟩
  | .hbm, ⟨54, _⟩ => ⟨S2x1x1x256, .f32⟩
  | .hbm, ⟨55, _⟩ => ⟨S2x1x1x256, .f32⟩
  | .hbm, ⟨56, _⟩ => ⟨S2x14x14x256, .f32⟩
  | .hbm, ⟨57, _⟩ => ⟨S2x14x14x256, .f32⟩
  | .hbm, ⟨58, _⟩ => ⟨S2x14x14x256, .f32⟩
  | .hbm, ⟨59, _⟩ => ⟨S2x14x14x16, .f32⟩
  | .hbm, ⟨60, _⟩ => ⟨S2x14x14x16x1024, .f32⟩
  | .hbm, ⟨61, _⟩ => ⟨S16x1024, .f32⟩
  | .hbm, ⟨62, _⟩ => ⟨S1x1x1x16x1024, .f32⟩
  | .hbm, ⟨63, _⟩ => ⟨S2x14x14x16x1024, .f32⟩
  | .hbm, ⟨64, _⟩ => ⟨S2x14x14x16x1024, .f32⟩
  | .hbm, ⟨65, _⟩ => ⟨S_, .f32⟩
  | .hbm, ⟨66, _⟩ => ⟨S_, .f32⟩
  | .hbm, ⟨67, _⟩ => ⟨S2x14x14x16x1024, .f32⟩
  | .hbm, ⟨68, _⟩ => ⟨S2x14x14x16x1024, .i1⟩
  | .hbm, ⟨69, _⟩ => ⟨S_, .f32⟩
  | .hbm, ⟨70, _⟩ => ⟨S2x14x14x16x1024, .f32⟩
  | .hbm, ⟨71, _⟩ => ⟨S2x14x14x16x1024, .f32⟩
  | .hbm, ⟨72, _⟩ => ⟨S2x14x14x16x1024, .f32⟩
  | .hbm, ⟨73, _⟩ => ⟨S16x256x2x14x14, .f32⟩
  | .hbm, ⟨74, _⟩ => ⟨S2x14x14x16x256, .f32⟩
  | .hbm, ⟨75, _⟩ => ⟨S16x256, .f32⟩
  | .hbm, ⟨76, _⟩ => ⟨S1x1x1x16x256, .f32⟩
  | .hbm, ⟨77, _⟩ => ⟨S2x14x14x16x256, .f32⟩
  | .hbm, ⟨78, _⟩ => ⟨S2x14x14x16x256, .f32⟩
  | .hbm, ⟨79, _⟩ => ⟨S2x14x14x16x1, .f32⟩
  | .hbm, ⟨80, _⟩ => ⟨S2x14x14x16x256, .f32⟩
  | .hbm, ⟨81, _⟩ => ⟨S2x14x14x16x256, .f32⟩
  | .hbm, ⟨82, _⟩ => ⟨S_, .f32⟩
  | .hbm, ⟨83, _⟩ => ⟨S2x14x14x256, .f32⟩
  | .hbm, ⟨84, _⟩ => ⟨S2x14x14x512, .f32⟩
  | .hbm, ⟨85, _⟩ => ⟨S2x14x14x1, .f32⟩
  | .hbm, ⟨86, _⟩ => ⟨S1, .f32⟩
  | .hbm, ⟨87, _⟩ => ⟨S1x1x1x1, .f32⟩
  | .hbm, ⟨88, _⟩ => ⟨S2x14x14x1, .f32⟩
  | .hbm, ⟨89, _⟩ => ⟨S2x14x14x1, .f32⟩
  | .hbm, ⟨90, _⟩ => ⟨S2x14x14x1, .f32⟩
  | .hbm, ⟨91, _⟩ => ⟨S1, .f32⟩
  | .hbm, ⟨92, _⟩ => ⟨S1x1x1x1, .f32⟩
  | .hbm, ⟨93, _⟩ => ⟨S2x14x14x1, .f32⟩
  | .hbm, ⟨94, _⟩ => ⟨S2x14x14x1, .f32⟩
  | .hbm, ⟨95, _⟩ => ⟨S2x14x14x2, .f32⟩
  | .hbm, ⟨96, _⟩ => ⟨S_, .f32⟩
  | .hbm, ⟨97, _⟩ => ⟨S2x14x14, .f32⟩
  | .hbm, ⟨98, _⟩ => ⟨S_, .f32⟩
  | .hbm, ⟨99, _⟩ => ⟨S2x14x14, .f32⟩
  | .hbm, ⟨100, _⟩ => ⟨S2x14x14, .f32⟩
  | .hbm, ⟨101, _⟩ => ⟨S2x14x14x1, .f32⟩
  | .hbm, ⟨102, _⟩ => ⟨S2x14x14x2, .f32⟩
  | .hbm, ⟨103, _⟩ => ⟨S2x14x14x2, .f32⟩
  | .hbm, ⟨104, _⟩ => ⟨S2x14x14x2, .f32⟩
  | .hbm, ⟨105, _⟩ => ⟨S_, .f32⟩
  | .hbm, ⟨106, _⟩ => ⟨S2x14x14, .f32⟩
  | .hbm, ⟨107, _⟩ => ⟨S2x14x14x1, .f32⟩
  | .hbm, ⟨108, _⟩ => ⟨S2x14x14x2, .f32⟩
  | .hbm, ⟨109, _⟩ => ⟨S2x14x14x2, .f32⟩
  | .hbm, ⟨110, _⟩ => ⟨S2x14x14x1, .f32⟩
  | .hbm, ⟨111, _⟩ => ⟨S2x14x14x256, .f32⟩
  | .hbm, ⟨112, _⟩ => ⟨S2x14x14x256, .f32⟩
  | .hbm, ⟨113, _⟩ => ⟨S2x14x14x1, .f32⟩
  | .hbm, ⟨114, _⟩ => ⟨S2x14x14x256, .f32⟩
  | .hbm, ⟨115, _⟩ => ⟨S2x14x14x256, .f32⟩
  | .hbm, ⟨116, _⟩ => ⟨S2x14x14x256, .f32⟩
  | .hbm, ⟨117, _⟩ => ⟨S392x256, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_4 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_5 : Ref sig .tc := ⟨.hbm, 96, rfl⟩
abbrev main_v59 : Ref sig .tc := ⟨.hbm, 97, rfl⟩
abbrev main_cst_6 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_7 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]
-- ==== Kernel2.lean ====
abbrev S392x256 : Shape := ⟨2, ![392, 256]⟩
abbrev S256x16 : Shape := ⟨2, ![256, 16]⟩
abbrev S8 : Shape := ⟨1, ![8]⟩
abbrev S_ : Shape := ⟨0, ![]⟩
abbrev S8x1 : Shape := ⟨2, ![8, 1]⟩
abbrev S392x16 : Shape := ⟨2, ![392, 16]⟩
abbrev S8x256 : Shape := ⟨2, ![8, 256]⟩
abbrev S8x16 : Shape := ⟨2, ![8, 16]⟩
abbrev S1x1 : Shape := ⟨2, ![1, 1]⟩
abbrev S32x4 : Shape := ⟨2, ![32, 4]⟩
abbrev S196x256 : Shape := ⟨2, ![196, 256]⟩
abbrev S256 : Shape := ⟨1, ![256]⟩
abbrev S1x256 : Shape := ⟨2, ![1, 256]⟩
abbrev S392 : Shape := ⟨1, ![392]⟩
abbrev S392x1 : Shape := ⟨2, ![392, 1]⟩
abbrev S16 : Shape := ⟨1, ![16]⟩
abbrev S1x16 : Shape := ⟨2, ![1, 16]⟩
abbrev S1 : Shape := ⟨1, ![1]⟩
abbrev S392x392 : Shape := ⟨2, ![392, 392]⟩
abbrev S16x16 : Shape := ⟨2, ![16, 16]⟩
abbrev S32x16 : Shape := ⟨2, ![32, 16]⟩
abbrev S32 : Shape := ⟨1, ![32]⟩
abbrev S32x1 : Shape := ⟨2, ![32, 1]⟩

abbrev nBuf : Space → Nat
  | .hbm => 15
  | .vmem => 10
  | .smem => 0
  | _ => 0

abbrev bufTy : (tb : Table) → Fin (tcTables nBuf tb) → BufTy
  | .hbm, ⟨0, _⟩ => ⟨S392x256, .f32⟩
  | .hbm, ⟨1, _⟩ => ⟨S256x16, .f32⟩
  | .hbm, ⟨2, _⟩ => ⟨S256x16, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S8, .f32⟩
  | .hbm, ⟨8, _⟩ => ⟨S8x1, .f32⟩
  | .hbm, ⟨9, _⟩ => ⟨S392x16, .f32⟩
  | .hbm, ⟨10, _⟩ => ⟨S392x16, .f32⟩
  | .hbm, ⟨11, _⟩ => ⟨S8x256, .f32⟩
  | .hbm, ⟨12, _⟩ => ⟨S8x16, .f32⟩
  | .hbm, ⟨13, _⟩ => ⟨S1x1, .f32⟩
  | .hbm, ⟨14, _⟩ => ⟨S32x4, .i32⟩
  | .local _ .vmem, ⟨0, _⟩ => ⟨S392x256, .f32⟩
  | .local _ .vmem, ⟨1, _⟩ => ⟨S256x16, .f32⟩
  | .local _ .vmem, ⟨2, _⟩ => ⟨S256x16, .f32⟩
  | .local _ .vmem, ⟨3, _⟩ => ⟨S8x1, .f32⟩
  | .local _ .vmem, ⟨4, _⟩ => ⟨S392x16, .f32⟩
  | .local _ .vmem, ⟨5, _⟩ => ⟨S392x16, .f32⟩
  | .local _ .vmem, ⟨6, _⟩ => ⟨S8x256, .f32⟩
  | .local _ .vmem, ⟨7, _⟩ => ⟨S8x16, .f32⟩
  | .local _ .vmem, ⟨8, _⟩ => ⟨S1x1, .f32⟩
  | .local _ .vmem, ⟨9, _⟩ => ⟨S32x4, .i32⟩
  | _, _ => ⟨S392x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev main_v5_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S392x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S392x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S392x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x4 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference2Ideal.lean ====
abbrev S392x256 : Shape := ⟨2, ![392, 256]⟩
abbrev S256x16 : Shape := ⟨2, ![256, 16]⟩
abbrev S2x196x256 : Shape := ⟨3, ![2, 196, 256]⟩
abbrev S_ : Shape := ⟨0, ![]⟩
abbrev S2x256 : Shape := ⟨2, ![2, 256]⟩
abbrev S392x16 : Shape := ⟨2, ![392, 16]⟩
abbrev S392 : Shape := ⟨1, ![392]⟩
abbrev S392x1 : Shape := ⟨2, ![392, 1]⟩
abbrev S392x2 : Shape := ⟨2, ![392, 2]⟩
abbrev S392x2x1 : Shape := ⟨3, ![392, 2, 1]⟩
abbrev S1x1x16 : Shape := ⟨3, ![1, 1, 16]⟩
abbrev S392x2x16 : Shape := ⟨3, ![392, 2, 16]⟩
abbrev S16 : Shape := ⟨1, ![16]⟩
abbrev S2x16 : Shape := ⟨2, ![2, 16]⟩
abbrev S2 : Shape := ⟨1, ![2]⟩
abbrev S2x1 : Shape := ⟨2, ![2, 1]⟩
abbrev S2x2 : Shape := ⟨2, ![2, 2]⟩
abbrev S2x2x1 : Shape := ⟨3, ![2, 2, 1]⟩
abbrev S2x2x16 : Shape := ⟨3, ![2, 2, 16]⟩
abbrev S8x16 : Shape := ⟨2, ![8, 16]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S392x256, .f32⟩
  | .hbm, ⟨1, _⟩ => ⟨S256x16, .f32⟩
  | .hbm, ⟨2, _⟩ => ⟨S256x16, .f32⟩
  | .hbm, ⟨3, _⟩ => ⟨S2x196x256, .f32⟩
  | .hbm, ⟨4, _⟩ => ⟨S_, .f32⟩
  | .hbm, ⟨5, _⟩ => ⟨S2x256, .f32⟩
  | .hbm, ⟨6, _⟩ => ⟨S_, .f32⟩
  | .hbm, ⟨7, _⟩ => ⟨S2x256, .f32⟩
  | .hbm, ⟨8, _⟩ => ⟨S2x256, .f32⟩
  | .hbm, ⟨9, _⟩ => ⟨S392x16, .f32⟩
  | .hbm, ⟨10, _⟩ => ⟨S_, .f32⟩
  | .hbm, ⟨11, _⟩ => ⟨S392, .f32⟩
  | .hbm, ⟨12, _⟩ => ⟨S_, .f32⟩
  | .hbm, ⟨13, _⟩ => ⟨S392, .f32⟩
  | .hbm, ⟨14, _⟩ => ⟨S392, .f32⟩
  | .hbm, ⟨15, _⟩ => ⟨S392x1, .f32⟩
  | .hbm, ⟨16, _⟩ => ⟨S392x16, .f32⟩
  | .hbm, ⟨17, _⟩ => ⟨S392x16, .f32⟩
  | .hbm, ⟨18, _⟩ => ⟨S392x16, .f32⟩
  | .hbm, ⟨19, _⟩ => ⟨S_, .f32⟩
  | .hbm, ⟨20, _⟩ => ⟨S392, .f32⟩
  | .hbm, ⟨21, _⟩ => ⟨S392x1, .f32⟩
  | .hbm, ⟨22, _⟩ => ⟨S392x16, .f32⟩
  | .hbm, ⟨23, _⟩ => ⟨S392x16, .f32⟩
  | .hbm, ⟨24, _⟩ => ⟨S392x2, .f32⟩
  | .hbm, ⟨25, _⟩ => ⟨S392x2, .i32⟩
  | .hbm, ⟨26, _⟩ => ⟨S_, .f32⟩
  | .hbm, ⟨27, _⟩ => ⟨S392, .f32⟩
  | .hbm, ⟨28, _⟩ => ⟨S392x1, .f32⟩
  | .hbm, ⟨29, _⟩ => ⟨S392x2, .f32⟩
  | .hbm, ⟨30, _⟩ => ⟨S392x2, .f32⟩
  | .hbm, ⟨31, _⟩ => ⟨S392x2x1, .i32⟩
  | .hbm, ⟨32, _⟩ => ⟨S1x1x16, .i32⟩
  | .hbm, ⟨33, _⟩ => ⟨S392x2x16, .i32⟩
  | .hbm, ⟨34, _⟩ => ⟨S392x2x16, .i32⟩
  | .hbm, ⟨35, _⟩ => ⟨S392x2x16, .i1⟩
  | .hbm, ⟨36, _⟩ => ⟨S392x2x16, .f32⟩
  | .hbm, ⟨37, _⟩ => ⟨S392x2x1, .f32⟩
  | .hbm, ⟨38, _⟩ => ⟨S392x2x16, .f32⟩
  | .hbm, ⟨39, _⟩ => ⟨S392x2x16, .f32⟩
  | .hbm, ⟨40, _⟩ => ⟨S_, .f32⟩
  | .hbm, ⟨41, _⟩ => ⟨S392x16, .f32⟩
  | .hbm, ⟨42, _⟩ => ⟨S_, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x16, .f32⟩
  | .hbm, ⟨58, _⟩ => ⟨S_, .f32⟩
  | .hbm, ⟨59, _⟩ => ⟨S2, .f32⟩
  | .hbm, ⟨60, _⟩ => ⟨S_, .f32⟩
  | .hbm, ⟨61, _⟩ => ⟨S2, .f32⟩
  | .hbm, ⟨62, _⟩ => ⟨S2, .f32⟩
  | .hbm, ⟨63, _⟩ => ⟨S2x1, .f32⟩
  | .hbm, ⟨64, _⟩ => ⟨S2x16, .f32⟩
  | .hbm, ⟨65, _⟩ => ⟨S2x16, .f32⟩
  | .hbm, ⟨66, _⟩ => ⟨S2x16, .f32⟩
  | .hbm, ⟨67, _⟩ => ⟨S_, .f32⟩
  | .hbm, ⟨68, _⟩ => ⟨S2, .f32⟩
  | .hbm, ⟨69, _⟩ => ⟨S2x1, .f32⟩
  | .hbm, ⟨70, _⟩ => ⟨S2x16, .f32⟩
  | .hbm, ⟨71, _⟩ => ⟨S2x16, .f32⟩
  | .hbm, ⟨72, _⟩ => ⟨S2x2, .f32⟩
  | .hbm, ⟨73, _⟩ => ⟨S2x2, .i32⟩
  | .hbm, ⟨74, _⟩ => ⟨S_, .f32⟩
  | .hbm, ⟨75, _⟩ => ⟨S2, .f32⟩
  | .hbm, ⟨76, _⟩ => ⟨S2x1, .f32⟩
  | .hbm, ⟨77, _⟩ => ⟨S2x2, .f32⟩
  | .hbm, ⟨78, _⟩ => ⟨S2x2, .f32⟩
  | .hbm, ⟨79, _⟩ => ⟨S2x2x1, .i32⟩
  | .hbm, ⟨80, _⟩ => ⟨S1x1x16, .i32⟩
  | .hbm, ⟨81, _⟩ => ⟨S2x2x16, .i32⟩
  | .hbm, ⟨82, _⟩ => ⟨S2x2x16, .i32⟩
  | .hbm, ⟨83, _⟩ => ⟨S2x2x16, .i1⟩
  | .hbm, ⟨84, _⟩ => ⟨S2x2x16, .f32⟩
  | .hbm, ⟨85, _⟩ => ⟨S2x2x1, .f32⟩
  | .hbm, ⟨86, _⟩ => ⟨S2x2x16, .f32⟩
  | .hbm, ⟨87, _⟩ => ⟨S2x2x16, .f32⟩
  | .hbm, ⟨88, _⟩ => ⟨S_, .f32⟩
  | .hbm, ⟨89, _⟩ => ⟨S2x16, .f32⟩
  | .hbm, ⟨90, _⟩ => ⟨S_, .f32⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S_, .f32⟩
  | .hbm, ⟨96, _⟩ => ⟨S16, .f32⟩
  | .hbm, ⟨97, _⟩ => ⟨S_, .f32⟩
  | .hbm, ⟨98, _⟩ => ⟨S16, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .i32⟩
  | .hbm, ⟨106, _⟩ => ⟨S_, .f32⟩
  | .hbm, ⟨107, _⟩ => ⟨S8x16, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S1x1, .f32⟩
  | _, _ => ⟨S392x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_cst_12 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_values_15 : Ref sig .tc := ⟨.hbm, 72, rfl⟩
abbrev main_indices_16 : Ref sig .tc := ⟨.hbm, 73, rfl⟩
abbrev main_cst_17 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_18 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_cst_20 : Ref sig .tc := ⟨.hbm, 92, rfl⟩
abbrev main_v56 : Ref sig .tc := ⟨.hbm, 93, rfl⟩
abbrev main_v57 : Ref sig .tc := ⟨.hbm, 94, rfl⟩
abbrev main_cst_21 : Ref sig .tc := ⟨.hbm, 95, rfl⟩
abbrev main_v58 : Ref sig .tc := ⟨.hbm, 96, rfl⟩
abbrev main_cst_22 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_23 : Ref sig .tc := ⟨.hbm, 101, rfl⟩
abbrev main_v62 : Ref sig .tc := ⟨.hbm, 102, rfl⟩
abbrev main_cst_24 : Ref sig .tc := ⟨.hbm, 103, rfl⟩
abbrev main_v63 : Ref sig .tc := ⟨.hbm, 104, rfl⟩
abbrev main_c : Ref sig .tc := ⟨.hbm, 105, rfl⟩
abbrev main_call2_v0 : Ref sig .tc := ⟨.hbm, 106, rfl⟩
abbrev main_v64 : Ref sig .tc := ⟨.hbm, 107, rfl⟩
abbrev main_v65 : Ref sig .tc := ⟨.hbm, 108, rfl⟩
abbrev main_cst_25 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== Proof.Spec.lean ====
/- The mathematics of the call over the extended reals: one expert's two layers at a vector, a mixture of the sixteen
   experts under given gates, the channel attention, and the two-way gate between the channel and the spatial value. -/
module

public import Idealize.ShloMosaic.Lib.Pointwise

@[expose] public section

noncomputable section

namespace Cert.Spec

open Idealize.ShloMosaic

/-- Arrays of extended reals. -/
abbrev A (s : Shape) : Type := FVec Ideal s .f32

/-- The slope of the leaky rectifier: the float nearest 0.01. -/
def slope : EReal := Ideal.ofBits .f32 0x3C23D70A#32

def leaky (v : EReal) : EReal := if 0 ≤ v then v else slope * v

/-- Two layers at the vector `x`, entry `c`: affine, leaky rectifier, affine. -/
def ffn (w1 : Fin 256 → Fin 1024 → EReal) (b1 : Fin 1024 → EReal) (w2 : Fin 1024 → Fin 256 → EReal) (b2 : Fin 256 → EReal)
    (x : Fin 256 → EReal) (c : Fin 256) : EReal :=
  ∑ h : Fin 1024, leaky (∑ k : Fin 256, x k * w1 k h + b1 h) * w2 h c + b2 c

/-- Entry `c` of expert `e`'s output at the vector `x`. -/
def expert (W1 : A ⟨3, ![16, 256, 1024]⟩) (b1 : A ⟨3, ![16, 1, 1024]⟩) (W2 : A ⟨3, ![16, 1024, 256]⟩) (b2 : A ⟨3, ![16, 1, 256]⟩)
    (e : Fin 16) (x : Fin 256 → EReal) (c : Fin 256) : EReal :=
  ffn (fun k h => W1 (ix3 e k h)) (fun h => b1 (ix3 e 0 h)) (fun h c => W2 (ix3 e h c)) (fun c => b2 (ix3 e 0 c)) x c

/-- Entry `c` of the sixteen experts' outputs at `x`, summed under the gates `g`. -/
def mix (W1 : A ⟨3, ![16, 256, 1024]⟩) (b1 : A ⟨3, ![16, 1, 1024]⟩) (W2 : A ⟨3, ![16, 1024, 256]⟩) (b2 : A ⟨3, ![16, 1, 256]⟩)
    (g : Fin 16 → EReal) (x : Fin 256 → EReal) (c : Fin 256) : EReal :=
  ∑ e : Fin 16, g e * expert W1 b1 W2 b2 e x c

/-- The logistic function. -/
def sig (v : EReal) : EReal := Ideal.div 1 (1 + Ideal.exp (-v))

/-- The image a token belongs to. -/
def img (n : Fin 392) : Fin 2 := ⟨n.val / 196, by have := n.isLt; omega⟩

/-- A gate's logit: the weights' first half against the channel value, the second half against the spatial value. -/
def logit (w : A ⟨2, ![1, 512]⟩) (b : A ⟨2, ![1, 1]⟩) (ch sp : Fin 256 → EReal) : EReal :=
  ∑ k : Fin 256, ch k * w (ix2 0 ⟨k.val, by have := k.isLt; omega⟩)
    + ∑ k : Fin 256, sp k * w (ix2 0 ⟨256 + k.val, by have := k.isLt; omega⟩) + b (ix2 0 0)

/-- Two values under the softmax of two logits. -/
def combine (ch sp a s : EReal) : EReal :=
  ch * Ideal.div (Ideal.exp (a - max a s)) (Ideal.exp (a - max a s) + Ideal.exp (s - max a s))
    + sp * Ideal.div (Ideal.exp (s - max a s)) (Ideal.exp (a - max a s) + Ideal.exp (s - max a s))

/-- The channel value: the token's features under its image's channel attention. -/
def chan (x2 : A ⟨2, ![392, 256]⟩) (x3 : A ⟨2, ![8, 256]⟩) (x6 : A ⟨2, ![8, 16]⟩) (x11 : A ⟨3, ![16, 256, 1024]⟩) (x12 : A ⟨3, ![16, 1, 1024]⟩) (x13 : A ⟨3, ![16, 1024, 256]⟩)
    (x14 : A ⟨3, ![16, 1, 256]⟩) (n : Fin 392) (c : Fin 256) : EReal :=
  x2 (ix2 n c) * sig (mix x11 x12 x13 x14 (fun e => x6 (ix2 ⟨(img n).val, by have := (img n).isLt; omega⟩ e))
    (fun k => x3 (ix2 ⟨(img n).val, by have := (img n).isLt; omega⟩ k)) c)

/-- The spatial value: the token's own mixture. -/
def spat (x1 : A ⟨2, ![392, 256]⟩) (x4 : A ⟨2, ![392, 16]⟩) (x7 : A ⟨3, ![16, 256, 1024]⟩) (x8 : A ⟨3, ![16, 1, 1024]⟩) (x9 : A ⟨3, ![16, 1024, 256]⟩) (x10 : A ⟨3, ![16, 1, 256]⟩)
    (n : Fin 392) (c : Fin 256) : EReal :=
  mix x7 x8 x9 x10 (fun e => x4 (ix2 n e)) (fun k => x1 (ix2 n k)) c

/-- The whole result at token `n`, entry `c`. -/
def result (x1 : A ⟨2, ![392, 256]⟩) (x2 : A ⟨2, ![392, 256]⟩) (x3 : A ⟨2, ![8, 256]⟩) (x4 : A ⟨2, ![392, 16]⟩) (x6 : A ⟨2, ![8, 16]⟩) (x7 : A ⟨3, ![16, 256, 1024]⟩) (x8 : A ⟨3, ![16, 1, 1024]⟩) (x9 : A ⟨3, ![16, 1024, 256]⟩) (x10 : A ⟨3, ![16, 1, 256]⟩) (x11 : A ⟨3, ![16, 256, 1024]⟩) (x12 : A ⟨3, ![16, 1, 1024]⟩) (x13 : A ⟨3, ![16, 1024, 256]⟩) (x14 : A ⟨3, ![16, 1, 256]⟩) (x15 : A ⟨2, ![1, 512]⟩) (x16 : A ⟨2, ![1, 1]⟩) (x17 : A ⟨2, ![1, 512]⟩) (x18 : A ⟨2, ![1, 1]⟩) (n : Fin 392) (c : Fin 256) : EReal :=
  combine (chan x2 x3 x6 x11 x12 x13 x14 n c) (spat x1 x4 x7 x8 x9 x10 n c)
    (logit x15 x16 (chan x2 x3 x6 x11 x12 x13 x14 n) (spat x1 x4 x7 x8 x9 x10 n))
    (logit x17 x18 (chan x2 x3 x6 x11 x12 x13 x14 n) (spat x1 x4 x7 x8 x9 x10 n))

end Cert.Spec

end
-- ==== Proof.RefValue.lean ====
/- The reference read at an index: it is the mixture, attention and gate of `Spec` on every token. -/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read
open Idealize.ShloMosaic Cert.Spec

/-- The channel experts' mixture for image `b`. -/
theorem attn_apply (x3 : FVec Ideal S8x256 .f32) (x6 : FVec Ideal S8x16 .f32) (x11 : FVec Ideal S16x256x1024 .f32) (x12 : FVec Ideal S16x1x1024 .f32) (x13 : FVec Ideal S16x1024x256 .f32) (x14 : FVec Ideal S16x1x256 .f32) (b : Fin 2) (c : Fin 256) :
    val_main_v19 (F := Ideal) x3 x6 x11 x12 x13 x14 (ix4 b 0 0 c)
      = mix x11 x12 x13 x14 (fun e => x6 (ix2 ⟨b.val, by have := b.isLt; omega⟩ e)) (fun k => x3 (ix2 ⟨b.val, by have := b.isLt; omega⟩ k)) c := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_call0_cst, val_main_call0_v0, val_main_call0_v1, val_main_call0_v2, val_main_call0_v3, val_main_call0_v4, val_main_cst_0]
  refine Finset.sum_congr rfl fun e _ => ?_
  refine congrArg (_ * ·) (congrArg (· + _) (Finset.sum_congr rfl fun h _ => ?_))
  rw [mul_comm]; rfl

/-- The channel value of token `(b, i, j)`. -/
theorem channel_apply (x2 : FVec Ideal S392x256 .f32) (x3 : FVec Ideal S8x256 .f32) (x6 : FVec Ideal S8x16 .f32) (x11 : FVec Ideal S16x256x1024 .f32) (x12 : FVec Ideal S16x1x1024 .f32) (x13 : FVec Ideal S16x1024x256 .f32) (x14 : FVec Ideal S16x1x256 .f32) (b : Fin 2) (i j : Fin 14) (c : Fin 256) :
    val_main_v28 (F := Ideal) x2 x3 x6 x11 x12 x13 x14 (ix4 b i j c)
      = x2 (ix2 ⟨b.val * 196 + i.val * 14 + j.val, by have := b.isLt; have := i.isLt; have := j.isLt; omega⟩ c)
        * Spec.sig (mix x11 x12 x13 x14 (fun e => x6 (ix2 ⟨b.val, by have := b.isLt; omega⟩ e)) (fun k => x3 (ix2 ⟨b.val, by have := b.isLt; omega⟩ k)) c) := by
  pointwise [val_main_v20, val_main_v21, val_main_v22, val_main_v23, val_main_v24, val_main_v25, val_main_v26, val_main_v27, val_main_v28, val_main_cst_1, val_main_cst_2]
  rw [attn_apply]; rfl

/-- The spatial experts' mixture for token `(b, i, j)`. -/
theorem spatial_apply (x1 : FVec Ideal S392x256 .f32) (x4 : FVec Ideal S392x16 .f32) (x7 : FVec Ideal S16x256x1024 .f32) (x8 : FVec Ideal S16x1x1024 .f32) (x9 : FVec Ideal S16x1024x256 .f32) (x10 : FVec Ideal S16x1x256 .f32) (b : Fin 2) (i j : Fin 14) (c : Fin 256) :
    val_main_v46 (F := Ideal) x1 x4 x7 x8 x9 x10 (ix4 b i j c)
      = mix x7 x8 x9 x10 (fun e => x4 (ix2 ⟨b.val * 196 + i.val * 14 + j.val, by have := b.isLt; have := i.isLt; have := j.isLt; omega⟩ e))
          (fun k => x1 (ix2 ⟨b.val * 196 + i.val * 14 + j.val, by have := b.isLt; have := i.isLt; have := j.isLt; omega⟩ k)) c := by
  pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst_3, val_main_call1_cst, val_main_call1_v0, val_main_call1_v1, val_main_call1_v2, val_main_call1_v3, val_main_call1_v4, val_main_cst_4]
  refine Finset.sum_congr rfl fun e _ => ?_
  refine congrArg (_ * ·) (congrArg (· + _) (Finset.sum_congr rfl fun h _ => ?_))
  rw [mul_comm]; rfl

/-- The channel gate's logit. -/
theorem avc_apply (x1 : FVec Ideal S392x256 .f32) (x2 : FVec Ideal S392x256 .f32) (x3 : FVec Ideal S8x256 .f32) (x4 : FVec Ideal S392x16 .f32) (x6 : FVec Ideal S8x16 .f32) (x7 : FVec Ideal S16x256x1024 .f32) (x8 : FVec Ideal S16x1x1024 .f32) (x9 : FVec Ideal S16x1024x256 .f32) (x10 : FVec Ideal S16x1x256 .f32) (x11 : FVec Ideal S16x256x1024 .f32) (x12 : FVec Ideal S16x1x1024 .f32) (x13 : FVec Ideal S16x1024x256 .f32) (x14 : FVec Ideal S16x1x256 .f32) (x15 : FVec Ideal S1x512 .f32) (x16 : FVec Ideal S1x1 .f32) (b : Fin 2) (i j : Fin 14) :
    val_main_v52 (F := Ideal) x1 x2 x3 x4 x6 x7 x8 x9 x10 x11 x12 x13 x14 x15 x16 (ix4 b i j 0)
      = logit x15 x16 (fun k => val_main_v28 (F := Ideal) x2 x3 x6 x11 x12 x13 x14 (ix4 b i j k)) (fun k => val_main_v46 (F := Ideal) x1 x4 x7 x8 x9 x10 (ix4 b i j k)) := by
  pointwise [val_main_v47, val_main_v48, val_main_v49, val_main_v50, val_main_v51, val_main_v52]
  rfl

/-- The spatial gate's logit. -/
theorem avs_apply (x1 : FVec Ideal S392x256 .f32) (x2 : FVec Ideal S392x256 .f32) (x3 : FVec Ideal S8x256 .f32) (x4 : FVec Ideal S392x16 .f32) (x6 : FVec Ideal S8x16 .f32) (x7 : FVec Ideal S16x256x1024 .f32) (x8 : FVec Ideal S16x1x1024 .f32) (x9 : FVec Ideal S16x1024x256 .f32) (x10 : FVec Ideal S16x1x256 .f32) (x11 : FVec Ideal S16x256x1024 .f32) (x12 : FVec Ideal S16x1x1024 .f32) (x13 : FVec Ideal S16x1024x256 .f32) (x14 : FVec Ideal S16x1x256 .f32) (x17 : FVec Ideal S1x512 .f32) (x18 : FVec Ideal S1x1 .f32) (b : Fin 2) (i j : Fin 14) :
    val_main_v57 (F := Ideal) x1 x2 x3 x4 x6 x7 x8 x9 x10 x11 x12 x13 x14 x17 x18 (ix4 b i j 0)
      = logit x17 x18 (fun k => val_main_v28 (F := Ideal) x2 x3 x6 x11 x12 x13 x14 (ix4 b i j k)) (fun k => val_main_v46 (F := Ideal) x1 x4 x7 x8 x9 x10 (ix4 b i j k)) := by
  pointwise [val_main_v47, val_main_v53, val_main_v54, val_main_v55, val_main_v56, val_main_v57]
  rfl

theorem fold_max_two (z : EReal) (f : Fin 2 → EReal) : Finset.fold max z f Finset.univ = max (f 0) (max (f 1) z) := by
  rw [show (Finset.univ : Finset (Fin 2)) = insert 0 (insert 1 ∅) from by decide, Finset.fold_insert (by decide),
    Finset.fold_insert (by decide), Finset.fold_empty]

theorem neg_inf : Ideal.ofBits FTy.f32 4286578688#32 = (⊥ : EReal) := by
  simp [Ideal.ofBits, Ideal.ieee]

/-- The two softmax weights. -/
theorem weights_apply (x1 : FVec Ideal S392x256 .f32) (x2 : FVec Ideal S392x256 .f32) (x3 : FVec Ideal S8x256 .f32) (x4 : FVec Ideal S392x16 .f32) (x6 : FVec Ideal S8x16 .f32) (x7 : FVec Ideal S16x256x1024 .f32) (x8 : FVec Ideal S16x1x1024 .f32) (x9 : FVec Ideal S16x1024x256 .f32) (x10 : FVec Ideal S16x1x256 .f32) (x11 : FVec Ideal S16x256x1024 .f32) (x12 : FVec Ideal S16x1x1024 .f32) (x13 : FVec Ideal S16x1024x256 .f32) (x14 : FVec Ideal S16x1x256 .f32) (x15 : FVec Ideal S1x512 .f32) (x16 : FVec Ideal S1x1 .f32) (x17 : FVec Ideal S1x512 .f32) (x18 : FVec Ideal S1x1 .f32) (b : Fin 2) (i j : Fin 14) (a s : EReal)
    (ha : val_main_v52 (F := Ideal) x1 x2 x3 x4 x6 x7 x8 x9 x10 x11 x12 x13 x14 x15 x16 (ix4 b i j 0) = a) (hs : val_main_v57 (F := Ideal) x1 x2 x3 x4 x6 x7 x8 x9 x10 x11 x12 x13 x14 x17 x18 (ix4 b i j 0) = s) :
    val_main_v69 (F := Ideal) x1 x2 x3 x4 x6 x7 x8 x9 x10 x11 x12 x13 x14 x15 x16 x17 x18 (ix4 b i j 0)
        = Ideal.div (Ideal.exp (a - max a s)) (Ideal.exp (a - max a s) + Ideal.exp (s - max a s))
      ∧ val_main_v69 (F := Ideal) x1 x2 x3 x4 x6 x7 x8 x9 x10 x11 x12 x13 x14 x15 x16 x17 x18 (ix4 b i j 1)
        = Ideal.div (Ideal.exp (s - max a s)) (Ideal.exp (a - max a s) + Ideal.exp (s - max a s)) := by
  pointwise [val_main_v58, val_main_v59, val_main_v60, val_main_v61, val_main_v62, val_main_v63, val_main_v64, val_main_v65, val_main_v66, val_main_v67, val_main_v68, val_main_v69, val_main_cst_5, val_main_cst_6, val_main_cst_7]
  simp [fold_max_two, neg_inf, ha, hs]

/-- The reference's result at token `n`, entry `c`. -/
theorem result_apply (x1 : FVec Ideal S392x256 .f32) (x2 : FVec Ideal S392x256 .f32) (x3 : FVec Ideal S8x256 .f32) (x4 : FVec Ideal S392x16 .f32) (x6 : FVec Ideal S8x16 .f32) (x7 : FVec Ideal S16x256x1024 .f32) (x8 : FVec Ideal S16x1x1024 .f32) (x9 : FVec Ideal S16x1024x256 .f32) (x10 : FVec Ideal S16x1x256 .f32) (x11 : FVec Ideal S16x256x1024 .f32) (x12 : FVec Ideal S16x1x1024 .f32) (x13 : FVec Ideal S16x1024x256 .f32) (x14 : FVec Ideal S16x1x256 .f32) (x15 : FVec Ideal S1x512 .f32) (x16 : FVec Ideal S1x1 .f32) (x17 : FVec Ideal S1x512 .f32) (x18 : FVec Ideal S1x1 .f32) (n : Fin 392) (c : Fin 256) :
    val_main_v77 (F := Ideal) x1 x2 x3 x4 x6 x7 x8 x9 x10 x11 x12 x13 x14 x15 x16 x17 x18 (ix2 n c) = result x1 x2 x3 x4 x6 x7 x8 x9 x10 x11 x12 x13 x14 x15 x16 x17 x18 n c := by
  have hn : n.val / 196 * 196 + n.val / 14 % 14 * 14 + n.val % 14 = n.val := by have := n.isLt; omega
  pointwise [val_main_v70, val_main_v71, val_main_v72, val_main_v73, val_main_v74, val_main_v75, val_main_v76, val_main_v77]
  have hw := weights_apply x1 x2 x3 x4 x6 x7 x8 x9 x10 x11 x12 x13 x14 x15 x16 x17 x18 ⟨n.val / 196, by have := n.isLt; omega⟩ ⟨n.val / 14 % 14, by omega⟩ ⟨n.val % 14, by omega⟩ _ _
    (avc_apply ..) (avs_apply ..)
  have hc := fun k => channel_apply x2 x3 x6 x11 x12 x13 x14 ⟨n.val / 196, by have := n.isLt; omega⟩ ⟨n.val / 14 % 14, by omega⟩ ⟨n.val % 14, by omega⟩ k
  have hs := fun k => spatial_apply x1 x4 x7 x8 x9 x10 ⟨n.val / 196, by have := n.isLt; omega⟩ ⟨n.val / 14 % 14, by omega⟩ ⟨n.val % 14, by omega⟩ k
  simp only [hn, Fin.eta] at hc hs
  simp only [hc, hs] at hw
  refine (congrArg₂ (· + ·) (congrArg₂ (· * ·) (hc c) hw.1) (congrArg₂ (· * ·) (hs c) hw.2)).trans ?_
  unfold result combine
  rfl

end Cert.ReferenceIdeal.Hand

end
-- ==== Proof.Words.lean ====
/- The precondition `named`, read as a bound on words of the routing table: each of the 22 expert numbers of the token
   blocks and of the 4 expert numbers of the channel slots lies in [0, 16). -/
module

public import proofs.«01_k».proof.Defs
public import proofs.«01_k».proof.Proof.Gen.Pre_named
public import Idealize.ShloMosaic.Lib.ReduceAll
public import Idealize.ShloMosaic.Lib.ValueIdx

@[expose] public section

set_option maxRecDepth 16384

noncomputable section

namespace Cert.Words

open Idealize.ShloMosaic Idealize.ShloMosaic.ValueIdx

/-- A table of 128 words names experts: its words 0 to 21 and 96 to 99 lie in [0, 16). -/
def Named (d : IVec ⟨1, ![128]⟩ 32) : Prop :=
  (∀ k : Fin 128, k.val < 22 → (d (ix1 k)).toNat < 16) ∧ ∀ k : Fin 128, 96 ≤ k.val → k.val < 100 → (d (ix1 k)).toNat < 16

/-- A word at least 0 and below 16 as a signed number is below 16 as a natural number. -/
theorem lt_of_signed (w : BitVec 32) (h1 : IntOp.cmpi .sge w 0#32 = 1#1) (h2 : IntOp.cmpi .slt w 16#32 = 1#1) : w.toNat < 16 := by
  have a := IntOp.cmpi_sge.1 h1
  have b := IntOp.cmpi_slt.1 h2
  simp only [BitVec.toInt, BitVec.toNat_ofNat] at a b
  omega

instance : Subsingleton (Pre_named.S_).Idx := ⟨fun a b => funext fun x => x.elim0⟩

/-- `named` all ones says that the table names experts. -/
theorem named_of_pre {F : FTy → Type} [FloatOps F] [Pre_named.Facts]
    (a0 : IVec Pre_named.S128 32) (a1 a2 : FVec F Pre_named.S392x256 .f32) (a3 : FVec F Pre_named.S8x256 .f32) (a4 a5 : FVec F Pre_named.S392x16 .f32)
    (a6 : FVec F Pre_named.S8x16 .f32) (a7 : FVec F Pre_named.S16x256x1024 .f32) (a8 : FVec F Pre_named.S16x1x1024 .f32)
    (a9 : FVec F Pre_named.S16x1024x256 .f32) (a10 : FVec F Pre_named.S16x1x256 .f32) (a11 : FVec F Pre_named.S16x256x1024 .f32)
    (a12 : FVec F Pre_named.S16x1x1024 .f32) (a13 : FVec F Pre_named.S16x1024x256 .f32) (a14 : FVec F Pre_named.S16x1x256 .f32)
    (a15 : FVec F Pre_named.S1x512 .f32) (a16 : FVec F Pre_named.S1x1 .f32) (a17 : FVec F Pre_named.S1x512 .f32) (a18 : FVec F Pre_named.S1x1 .f32)
    (h : Pre_named.fn (F := F) a0 a1 a2 a3 a4 a5 a6 a7 a8 a9 a10 a11 a12 a13 a14 a15 a16 a17 a18 = fun _ => 1#1) : Named a0 := by
  have e := congrFun h ix0
  dsimp only [Pre_named.fn] at e
  obtain ⟨e1, e2⟩ := IntOp.andi_eq_one.1 e
  constructor
  · intro k hk
    have := Host.reduce_andi_all _ _ _ _ _ e1 (ix1 (⟨k.val, hk⟩ : Fin 22))
    obtain ⟨p, q⟩ := IntOp.andi_eq_one.1 this
    have hx : (extractStridedSlice Pre_named.S22 ![0] a0 Pre_named.Facts.slices_S128_S22_0) (ix1 (⟨k.val, hk⟩ : Fin 22)) = a0 (ix1 k) :=
      congrArg a0 (funext fun x => match x with | ⟨0, _⟩ => Fin.ext (Nat.zero_add _))
    exact lt_of_signed _ (hx ▸ p) (hx ▸ q)
  · intro k hk hk'
    have := Host.reduce_andi_all _ _ _ _ _ e2 (ix1 (⟨k.val - 96, by omega⟩ : Fin 4))
    obtain ⟨p, q⟩ := IntOp.andi_eq_one.1 this
    have hx : (extractStridedSlice Pre_named.S4 ![96] a0 Pre_named.Facts.slices_S128_S4_96) (ix1 (⟨k.val - 96, by omega⟩ : Fin 4)) = a0 (ix1 k) :=
      congrArg a0 (funext fun x => match x with | ⟨0, _⟩ => Fin.ext (by show 96 + (k.val - 96) = k.val; omega))
    exact lt_of_signed _ (hx ▸ p) (hx ▸ q)

end Cert.Words

end
-- ==== Proof.Reads.lean ====
/- What each case of a grid point leaves in the two accumulators and in the result, as payloads of the blocks read. -/
module

public import proofs.«01_k».proof.Proof.Gen.KernelIdeal.Frame
public import Idealize.ShloMosaic.Lib.Pipeline.ValueKit.Acc
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A word of the routing table as the kernel reads it. -/
def word (c : Dev nD) (xt0 : TbBuf0 (F := F) c tbM0_0) (off : Fin 1 → Nat) (h : ∀ i, off i + S1.size i ≤ S128.size i) : BitVec 32 :=
  tbM0_0.view.readAt (Elt F) (Rect.unit (s := S128) off S1.size h).toLoadRect xt0 (Shape.Idx.first (numel1_S1.symm ▸ Nat.one_pos))

/-- The last point's result from the two accumulators: the channel value, the two gates' logits, their softmax. -/
def gateOut (xtok : Vec F S392x256 .f32) (sp : Vec F S392x256 .f32) (ch : Vec F S8x256 .f32) (wc : Vec F S1x512 .f32) (bc : Vec F S1x1 .f32)
    (ws : Vec F S1x512 .f32) (bs : Vec F S1x1 .f32) : Vec F S392x256 .f32 :=
  k0_pay5 (k0_pay10 ch xtok) sp
    (k0_pay11 ch xtok sp (View.ld wc (Rect.unit ![0, 0] ![1, 256] inb_S1x512_S1x256_0_0)) (View.ld wc (Rect.unit ![0, 256] ![1, 256] inb_S1x512_S1x256_0_256)) bc)
    (k0_pay12 ch xtok (View.ld ws (Rect.unit ![0, 0] ![1, 256] inb_S1x512_S1x256_0_0)))
    (View.ld ws (Rect.unit ![0, 256] ![1, 256] inb_S1x512_S1x256_0_256)) bs

variable (c : Dev nD) (i : grid0.Coords)
  (arg2 : Memref sig .tc .vmem S392x256 .f32) (harg2 : arg2.IsWhole)
  (arg3 : Memref sig .tc .vmem S392x256 .f32) (harg3 : arg3.IsWhole)
  (arg4 : Memref sig .tc .vmem S8x256 .f32) (harg4 : arg4.IsWhole)
  (arg5 : Memref sig .tc .vmem S392x16 .f32) (harg5 : arg5.IsWhole)
  (arg6 : Memref sig .tc .vmem S392x16 .f32) (harg6 : arg6.IsWhole)
  (arg7 : Memref sig .tc .vmem S8x16 .f32) (harg7 : arg7.IsWhole)
  (arg8 : Memref sig .tc .vmem S1x256x1024 .f32) (harg8 : arg8.IsWhole)
  (arg9 : Memref sig .tc .vmem S1x1x1024 .f32) (harg9 : arg9.IsWhole)
  (arg10 : Memref sig .tc .vmem S1x1024x256 .f32) (harg10 : arg10.IsWhole)
  (arg11 : Memref sig .tc .vmem S1x1x256 .f32) (harg11 : arg11.IsWhole)
  (arg12 : Memref sig .tc .vmem S1x256x1024 .f32) (harg12 : arg12.IsWhole)
  (arg13 : Memref sig .tc .vmem S1x1x1024 .f32) (harg13 : arg13.IsWhole)
  (arg14 : Memref sig .tc .vmem S1x1024x256 .f32) (harg14 : arg14.IsWhole)
  (arg15 : Memref sig .tc .vmem S1x1x256 .f32) (harg15 : arg15.IsWhole)
  (arg16 : Memref sig .tc .vmem S1x512 .f32) (harg16 : arg16.IsWhole)
  (arg17 : Memref sig .tc .vmem S1x1 .f32) (harg17 : arg17.IsWhole)
  (arg18 : Memref sig .tc .vmem S1x512 .f32) (harg18 : arg18.IsWhole)
  (arg19 : Memref sig .tc .vmem S1x1 .f32) (harg19 : arg19.IsWhole)
  (arg20 : Memref sig .tc .vmem S392x256 .f32) (harg20 : arg20.IsWhole)
  (arg21 : Memref sig .tc .vmem S392x256 .f32) (harg21 : arg21.IsWhole)
  (arg22 : Memref sig .tc .vmem S8x256 .f32) (harg22 : arg22.IsWhole)
variable (x0 : Vec F S392x256 .f32)
  (x1 : Vec F S392x256 .f32)
  (x2 : Vec F S8x256 .f32)
  (x3 : Vec F S392x16 .f32)
  (x4 : Vec F S392x16 .f32)
  (x5 : Vec F S8x16 .f32)
  (x6 : Vec F S1x256x1024 .f32)
  (x7 : Vec F S1x1x1024 .f32)
  (x8 : Vec F S1x1024x256 .f32)
  (x9 : Vec F S1x1x256 .f32)
  (x10 : Vec F S1x256x1024 .f32)
  (x11 : Vec F S1x1x1024 .f32)
  (x12 : Vec F S1x1024x256 .f32)
  (x13 : Vec F S1x1x256 .f32)
  (x14 : Vec F S1x512 .f32)
  (x15 : Vec F S1x1 .f32)
  (x16 : Vec F S1x512 .f32)
  (x17 : Vec F S1x1 .f32)
  (xt0 : TbBuf0 (F := F) c tbM0_0) (xs0 : Vec F S392x256 .f32) (xs1 : Vec F S8x256 .f32)

theorem acc_F (hc0 : ¬cond0_0 i) (hc3 : ¬cond0_3 i) (hc1 : cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    sout0_F_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 xs0 xs1 hc1 hc2 = k0_pay3 (k0_pay7 (word c xt0 (k0_off4 i) (k0_off4_inb i)) x3) (k0_pay8 (word c xt0 (k0_off4 i) (k0_off4_inb i)) (word c xt0 (k0_off5 i) (k0_off5_inb i)) x4 x4) x0 x6 x7 x8 x9 xs0 := by

  frame_out
  rfl

theorem acc_B (hc0 : cond0_0 i) (hc3 : ¬cond0_3 i) (hc1 : cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 hc1 hc2 = k0_pay3 (k0_pay7 (word c xt0 (k0_off4 i) (k0_off4_inb i)) x3) (k0_pay8 (word c xt0 (k0_off4 i) (k0_off4_inb i)) (word c xt0 (k0_off5 i) (k0_off5_inb i)) x4 x4) x0 x6 x7 x8 x9 k0_pay1 := by

  frame_out
  rfl

theorem chan_B (hc0 : cond0_0 i) (hc3 : ¬cond0_3 i) (hc1 : cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 hc1 hc2 = k0_pay2 := by

  frame_out

theorem acc_D (hc0 : cond0_0 i) (hc3 : ¬cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 hc1 hc2 = k0_pay1 := by

  frame_out

theorem chan_D (hc0 : cond0_0 i) (hc3 : ¬cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 hc1 hc2 = k0_pay2 := by

  frame_out

theorem chan_G (hc0 : ¬cond0_0 i) (hc3 : ¬cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : cond0_2 i (tbM0_0.view.readAt (Elt F) (Rect.unit (s := S128) ![100] S1.size inb_S128_S1_100).toLoadRect xt0 (Shape.Idx.first (numel1_S1.symm ▸ Nat.one_pos)))) :
    sout0_G_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 xs0 xs1 hc1 hc2 = k0_pay4 (k0_pay9 (word c xt0 (k0_off6 i) (k0_off6_inb i)) x2 x10 x11 x12 x13 x5 xs1) := by

  frame_out
  rfl

theorem chan_K (hc0 : ¬cond0_0 i) (hc3 : cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : cond0_2 i (tbM0_0.view.readAt (Elt F) (Rect.unit (s := S128) ![100] S1.size inb_S128_S1_100).toLoadRect xt0 (Shape.Idx.first (numel1_S1.symm ▸ Nat.one_pos)))) :
    sout0_K_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 xs0 xs1 hc1 hc2 = k0_pay4 (k0_pay9 (word c xt0 (k0_off6 i) (k0_off6_inb i)) x2 x10 x11 x12 x13 x5 xs1) := by

  frame_out
  rfl

theorem out_L (hc0 : ¬cond0_0 i) (hc3 : cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : ¬cond0_2 i (tbM0_0.view.readAt (Elt F) (Rect.unit (s := S128) ![100] S1.size inb_S128_S1_100).toLoadRect xt0 (Shape.Idx.first (numel1_S1.symm ▸ Nat.one_pos)))) :
    out0_L_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 xs0 xs1 hc1 hc2 = gateOut x1 xs0 xs1 x14 x15 x16 x17 := by

  frame_out
  rfl

theorem out_K (hc0 : ¬cond0_0 i) (hc3 : cond0_3 i) (hc1 : ¬cond0_1 i (tbM0_0.view.readAt (Elt F) (Rect.unit (s := S128) (k0_off3 i) S1.size (k0_off3_inb i)).toLoadRect xt0 (Shape.Idx.first (numel1_S1.symm ▸ Nat.one_pos)))) (hc2 : cond0_2 i (tbM0_0.view.readAt (Elt F) (Rect.unit (s := S128) ![100] S1.size inb_S128_S1_100).toLoadRect xt0 (Shape.Idx.first (numel1_S1.symm ▸ Nat.one_pos)))) :
    out0_K_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc3 x0 x1 x2 x3 x4 x5 x6 x7 x8 x9 x10 x11 x12 x13 x14 x15 x16 x17 xt0 xs0 xs1 hc1 hc2 = gateOut x1 xs0 (k0_pay4 (k0_pay9 (word c xt0 (k0_off6 i) (k0_off6_inb i)) x2 x10 x11 x12 x13 x5 xs1)) x14 x15 x16 x17 := by

  frame_out
  rfl

end Cert.KernelIdeal.Hand

end
-- ==== Proof.TableIdeal.lean ====
/- The idealized kernel's routing table: where its index maps read it, and that a table whose block and slot words name
   experts keeps every expert block inside its array. -/
module

public import proofs.«01_k».proof.Proof.Words
public import proofs.«01_k».proof.Proof.Gen.KernelIdeal.Frame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The block a grid point works on: its number up to 21. -/
def blk (i : grid0.Coords) : Fin 128 := ⟨min (i 0).val 21, by omega⟩

/-- The slot a grid point works on: its number past 22, at most 3. -/
def slot (i : grid0.Coords) : Fin 4 := ⟨min 3 ((i 0).val - 22), by omega⟩

theorem off1_val : ∀ n : Fin 26, (Scalar.indexCast (Scalar.minsi (BitVec.ofNat 32 n.val) 21#32)).toNat = min n.val 21 := by decide

theorem off2_val : ∀ n : Fin 26, (Scalar.indexCast (Scalar.addi 96#32 (Scalar.minsi 3#32 (Scalar.maxsi 0#32 (Scalar.subi (BitVec.ofNat 32 n.val) 22#32))))).toNat
    = 96 + min 3 (n.val - 22) := by decide

theorem off1_eq (i : grid0.Coords) : k0_off1 i = ![(blk i).val] := by
  unfold k0_off1
  exact congrArg (fun x => ![x]) (off1_val (i 0))

theorem off2_eq (i : grid0.Coords) : k0_off2 i = ![96 + (slot i).val] := by
  unfold k0_off2
  exact congrArg (fun x => ![x]) (off2_val (i 0))

/-- A one-word read of the table at offset `o` is its word `o`. -/
theorem word_at (d : IVec S128 32) (o : Fin 128) (off : Fin 1 → Nat) (ho : off = ![o.val]) (h : ∀ a, off a + S1.size a ≤ S128.size a) (h1 : 0 < S1.numel) :
    d ((Rect.unit (s := S128) off S1.size h).emb (Shape.Idx.first h1)) = d (ix1 o) := by
  subst ho
  exact congrArg d (funext fun a => match a with | ⟨0, _⟩ => Fin.ext (by show o.val + 1 * 0 = o.val; omega))

/-- The table's word for block `i`'s expert, and slot `i`'s. -/
def eidx (d : IVec S128 32) (i : grid0.Coords) : BitVec 32 := d (ix1 (blk i))
def cidx (d : IVec S128 32) (i : grid0.Coords) : BitVec 32 := d (ix1 (⟨96 + (slot i).val, by omega⟩ : Fin 128))

variable (pf : pre0.Contents (Elt F)) (i : grid0.Coords)

theorem tr6_eq : cc0_transform_6 k0_off1_inb numel1_S1 pf i = ![(eidx (pf 0) i).toNat, 0, 0] :=
  congrArg (fun w : BitVec 32 => ![w.toNat, 0, 0]) (word_at (pf 0) (blk i) _ (off1_eq i) (k0_off1_inb i) _)
theorem tr7_eq : cc0_transform_7 k0_off1_inb numel1_S1 pf i = ![(eidx (pf 0) i).toNat, 0, 0] :=
  congrArg (fun w : BitVec 32 => ![w.toNat, 0, 0]) (word_at (pf 0) (blk i) _ (off1_eq i) (k0_off1_inb i) _)
theorem tr8_eq : cc0_transform_8 k0_off1_inb numel1_S1 pf i = ![(eidx (pf 0) i).toNat, 0, 0] :=
  congrArg (fun w : BitVec 32 => ![w.toNat, 0, 0]) (word_at (pf 0) (blk i) _ (off1_eq i) (k0_off1_inb i) _)
theorem tr9_eq : cc0_transform_9 k0_off1_inb numel1_S1 pf i = ![(eidx (pf 0) i).toNat, 0, 0] :=
  congrArg (fun w : BitVec 32 => ![w.toNat, 0, 0]) (word_at (pf 0) (blk i) _ (off1_eq i) (k0_off1_inb i) _)
theorem tr10_eq : cc0_transform_10 k0_off2_inb numel1_S1 pf i = ![(cidx (pf 0) i).toNat, 0, 0] :=
  congrArg (fun w : BitVec 32 => ![w.toNat, 0, 0]) (word_at (pf 0) ⟨96 + (slot i).val, by omega⟩ _ (off2_eq i) (k0_off2_inb i) _)
theorem tr11_eq : cc0_transform_11 k0_off2_inb numel1_S1 pf i = ![(cidx (pf 0) i).toNat, 0, 0] :=
  congrArg (fun w : BitVec 32 => ![w.toNat, 0, 0]) (word_at (pf 0) ⟨96 + (slot i).val, by omega⟩ _ (off2_eq i) (k0_off2_inb i) _)
theorem tr12_eq : cc0_transform_12 k0_off2_inb numel1_S1 pf i = ![(cidx (pf 0) i).toNat, 0, 0] :=
  congrArg (fun w : BitVec 32 => ![w.toNat, 0, 0]) (word_at (pf 0) ⟨96 + (slot i).val, by omega⟩ _ (off2_eq i) (k0_off2_inb i) _)
theorem tr13_eq : cc0_transform_13 k0_off2_inb numel1_S1 pf i = ![(cidx (pf 0) i).toNat, 0, 0] :=
  congrArg (fun w : BitVec 32 => ![w.toNat, 0, 0]) (word_at (pf 0) ⟨96 + (slot i).val, by omega⟩ _ (off2_eq i) (k0_off2_inb i) _)

/-- A block of one expert lies inside a stack of sixteen when the expert's number is below sixteen. -/
theorem inside (w p q : Nat) (hw : w < 16) (ix : Fin 3 → Nat) (hix : ix = ![w, 0, 0]) (a : Fin 3) :
    (ix a + 1) * (⟨3, ![1, p, q]⟩ : Shape).size a ≤ (⟨3, ![16, p, q]⟩ : Shape).size a := by
  subst hix
  match a with
  | ⟨0, _⟩ => show (w + 1) * 1 ≤ 16; omega
  | ⟨1, _⟩ => show (0 + 1) * p ≤ p; omega
  | ⟨2, _⟩ => show (0 + 1) * q ≤ q; omega

variable {pf}

theorem eidx_lt (h : Words.Named (pf 0)) : (eidx (pf 0) i).toNat < 16 := h.1 _ (by show min _ 21 < 22; omega)
theorem cidx_lt (h : Words.Named (pf 0)) : (cidx (pf 0) i).toNat < 16 :=
  h.2 _ (Nat.le_add_right _ _) (by show 96 + (slot i).val < 100; omega)

/-- A table that names experts is admissible. -/
theorem ok0_of_named (h : Words.Named (pf 0)) : ok0 pf :=
  ⟨fun i => ⟨inside _ 256 1024 (eidx_lt i h) _ (tr6_eq pf i), Or.inl rfl⟩,
   fun i => ⟨inside _ 1 1024 (eidx_lt i h) _ (tr7_eq pf i), Or.inl rfl⟩,
   fun i => ⟨inside _ 1024 256 (eidx_lt i h) _ (tr8_eq pf i), Or.inl rfl⟩,
   fun i => ⟨inside _ 1 256 (eidx_lt i h) _ (tr9_eq pf i), Or.inl rfl⟩,
   fun i => ⟨inside _ 256 1024 (cidx_lt i h) _ (tr10_eq pf i), Or.inl rfl⟩,
   fun i => ⟨inside _ 1 1024 (cidx_lt i h) _ (tr11_eq pf i), Or.inl rfl⟩,
   fun i => ⟨inside _ 1024 256 (cidx_lt i h) _ (tr12_eq pf i), Or.inl rfl⟩,
   fun i => ⟨inside _ 1 256 (cidx_lt i h) _ (tr13_eq pf i), Or.inl rfl⟩⟩

theorem ok_of_named (m : (ℓ : Loc nD τ sig) → Buf (Elt F) ℓ) (h : Words.Named (m (((0 : Dev nD).tc : Thread nD τ).loc main_arg0))) : Ok m :=
  ok0_of_named (pf := tbl m) h

end Cert.KernelIdeal.Hand

end
-- ==== Proof.Blocks.lean ====
/- Each input block as the kernel reads it: the whole array, or the named expert's slice. -/
module

public import proofs.«01_k».proof.Proof.TableIdeal
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ) (hO : Ok m) (c : Dev nD) (t : Fin (cfgM m hO).N)

theorem in0 : iblk m hO c 0 t = V m c main_arg1 := by
  refine funext fun (x : S392x256.Idx) => ?_
  change V m c main_arg1 ((((cfgM m hO).win 0).blk t).view.emb x) = V m c main_arg1 x
  refine congrArg (V m c main_arg1) (funext fun a => match a with | ⟨0, _⟩ => Fin.ext ?_ | ⟨1, _⟩ => Fin.ext ?_)
  · show 0 * 392 + 1 * (x 0).val = (x 0).val
    omega
  · show 0 * 256 + 1 * (x 1).val = (x 1).val
    omega

theorem in1 : iblk m hO c 1 t = V m c main_arg2 := by
  refine funext fun (x : S392x256.Idx) => ?_
  change V m c main_arg2 ((((cfgM m hO).win 1).blk t).view.emb x) = V m c main_arg2 x
  refine congrArg (V m c main_arg2) (funext fun a => match a with | ⟨0, _⟩ => Fin.ext ?_ | ⟨1, _⟩ => Fin.ext ?_)
  · show 0 * 392 + 1 * (x 0).val = (x 0).val
    omega
  · show 0 * 256 + 1 * (x 1).val = (x 1).val
    omega

theorem in2 : iblk m hO c 2 t = V m c main_arg3 := by
  refine funext fun (x : S8x256.Idx) => ?_
  change V m c main_arg3 ((((cfgM m hO).win 2).blk t).view.emb x) = V m c main_arg3 x
  refine congrArg (V m c main_arg3) (funext fun a => match a with | ⟨0, _⟩ => Fin.ext ?_ | ⟨1, _⟩ => Fin.ext ?_)
  · show 0 * 8 + 1 * (x 0).val = (x 0).val
    omega
  · show 0 * 256 + 1 * (x 1).val = (x 1).val
    omega

theorem in3 : iblk m hO c 3 t = V m c main_arg4 := by
  refine funext fun (x : S392x16.Idx) => ?_
  change V m c main_arg4 ((((cfgM m hO).win 3).blk t).view.emb x) = V m c main_arg4 x
  refine congrArg (V m c main_arg4) (funext fun a => match a with | ⟨0, _⟩ => Fin.ext ?_ | ⟨1, _⟩ => Fin.ext ?_)
  · show 0 * 392 + 1 * (x 0).val = (x 0).val
    omega
  · show 0 * 16 + 1 * (x 1).val = (x 1).val
    omega

theorem in4 : iblk m hO c 4 t = V m c main_arg5 := by
  refine funext fun (x : S392x16.Idx) => ?_
  change V m c main_arg5 ((((cfgM m hO).win 4).blk t).view.emb x) = V m c main_arg5 x
  refine congrArg (V m c main_arg5) (funext fun a => match a with | ⟨0, _⟩ => Fin.ext ?_ | ⟨1, _⟩ => Fin.ext ?_)
  · show 0 * 392 + 1 * (x 0).val = (x 0).val
    omega
  · show 0 * 16 + 1 * (x 1).val = (x 1).val
    omega

theorem in5 : iblk m hO c 5 t = V m c main_arg6 := by
  refine funext fun (x : S8x16.Idx) => ?_
  change V m c main_arg6 ((((cfgM m hO).win 5).blk t).view.emb x) = V m c main_arg6 x
  refine congrArg (V m c main_arg6) (funext fun a => match a with | ⟨0, _⟩ => Fin.ext ?_ | ⟨1, _⟩ => Fin.ext ?_)
  · show 0 * 8 + 1 * (x 0).val = (x 0).val
    omega
  · show 0 * 16 + 1 * (x 1).val = (x 1).val
    omega

theorem in14 : iblk m hO c 14 t = V m c main_arg15 := by
  refine funext fun (x : S1x512.Idx) => ?_
  change V m c main_arg15 ((((cfgM m hO).win 14).blk t).view.emb x) = V m c main_arg15 x
  refine congrArg (V m c main_arg15) (funext fun a => match a with | ⟨0, _⟩ => Fin.ext ?_ | ⟨1, _⟩ => Fin.ext ?_)
  · show 0 * 1 + 1 * (x 0).val = (x 0).val
    omega
  · show 0 * 512 + 1 * (x 1).val = (x 1).val
    omega

theorem in15 : iblk m hO c 15 t = V m c main_arg16 := by
  refine funext fun (x : S1x1.Idx) => ?_
  change V m c main_arg16 ((((cfgM m hO).win 15).blk t).view.emb x) = V m c main_arg16 x
  refine congrArg (V m c main_arg16) (funext fun a => match a with | ⟨0, _⟩ => Fin.ext ?_ | ⟨1, _⟩ => Fin.ext ?_)
  · show 0 * 1 + 1 * (x 0).val = (x 0).val
    omega
  · show 0 * 1 + 1 * (x 1).val = (x 1).val
    omega

theorem in16 : iblk m hO c 16 t = V m c main_arg17 := by
  refine funext fun (x : S1x512.Idx) => ?_
  change V m c main_arg17 ((((cfgM m hO).win 16).blk t).view.emb x) = V m c main_arg17 x
  refine congrArg (V m c main_arg17) (funext fun a => match a with | ⟨0, _⟩ => Fin.ext ?_ | ⟨1, _⟩ => Fin.ext ?_)
  · show 0 * 1 + 1 * (x 0).val = (x 0).val
    omega
  · show 0 * 512 + 1 * (x 1).val = (x 1).val
    omega

theorem in17 : iblk m hO c 17 t = V m c main_arg18 := by
  refine funext fun (x : S1x1.Idx) => ?_
  change V m c main_arg18 ((((cfgM m hO).win 17).blk t).view.emb x) = V m c main_arg18 x
  refine congrArg (V m c main_arg18) (funext fun a => match a with | ⟨0, _⟩ => Fin.ext ?_ | ⟨1, _⟩ => Fin.ext ?_)
  · show 0 * 1 + 1 * (x 0).val = (x 0).val
    omega
  · show 0 * 1 + 1 * (x 1).val = (x 1).val
    omega

theorem in6 (k : Fin 256) (h : Fin 1024) (e : Fin 16) (he : (eidx (tbl m 0) (grid0.coords t)).toNat = e.val) :
    (iblk m hO c 6 t : Vec F S1x256x1024 .f32) (ix3 0 k h) = (V m c main_arg7 : Vec F S16x256x1024 .f32) (ix3 e k h) := by
  have hr := tr6_eq (tbl m) (grid0.coords t)
  change V m c main_arg7 ((((cfgM m hO).win 6).blk t).view.emb (show S1x256x1024.Idx from ix3 0 k h)) = V m c main_arg7 _
  refine congrArg (V m c main_arg7) (funext fun a => match a with | ⟨0, _⟩ => Fin.ext ?_ | ⟨1, _⟩ => Fin.ext ?_ | ⟨2, _⟩ => Fin.ext ?_)
  · show cc0_transform_6 k0_off1_inb numel1_S1 (tbl m) (grid0.coords t) 0 * 1 + 1 * 0 = e.val
    rw [hr]; show (eidx (tbl m 0) (grid0.coords t)).toNat * 1 + 1 * 0 = e.val
    omega
  · show cc0_transform_6 k0_off1_inb numel1_S1 (tbl m) (grid0.coords t) 1 * 256 + 1 * k.val = k.val
    rw [hr]; show 0 * 256 + 1 * k.val = k.val
    omega
  · show cc0_transform_6 k0_off1_inb numel1_S1 (tbl m) (grid0.coords t) 2 * 1024 + 1 * h.val = h.val
    rw [hr]; show 0 * 1024 + 1 * h.val = h.val
    omega

theorem in7 (h : Fin 1024) (e : Fin 16) (he : (eidx (tbl m 0) (grid0.coords t)).toNat = e.val) :
    (iblk m hO c 7 t : Vec F S1x1x1024 .f32) (ix3 0 0 h) = (V m c main_arg8 : Vec F S16x1x1024 .f32) (ix3 e 0 h) := by
  have hr := tr7_eq (tbl m) (grid0.coords t)
  change V m c main_arg8 ((((cfgM m hO).win 7).blk t).view.emb (show S1x1x1024.Idx from ix3 0 0 h)) = V m c main_arg8 _
  refine congrArg (V m c main_arg8) (funext fun a => match a with | ⟨0, _⟩ => Fin.ext ?_ | ⟨1, _⟩ => Fin.ext ?_ | ⟨2, _⟩ => Fin.ext ?_)
  · show cc0_transform_7 k0_off1_inb numel1_S1 (tbl m) (grid0.coords t) 0 * 1 + 1 * 0 = e.val
    rw [hr]; show (eidx (tbl m 0) (grid0.coords t)).toNat * 1 + 1 * 0 = e.val
    omega
  · show cc0_transform_7 k0_off1_inb numel1_S1 (tbl m) (grid0.coords t) 1 * 1 + 1 * 0 = 0
    rw [hr]; show 0 * 1 + 1 * 0 = 0
    omega
  · show cc0_transform_7 k0_off1_inb numel1_S1 (tbl m) (grid0.coords t) 2 * 1024 + 1 * h.val = h.val
    rw [hr]; show 0 * 1024 + 1 * h.val = h.val
    omega

theorem in8 (k : Fin 1024) (h : Fin 256) (e : Fin 16) (he : (eidx (tbl m 0) (grid0.coords t)).toNat = e.val) :
    (iblk m hO c 8 t : Vec F S1x1024x256 .f32) (ix3 0 k h) = (V m c main_arg9 : Vec F S16x1024x256 .f32) (ix3 e k h) := by
  have hr := tr8_eq (tbl m) (grid0.coords t)
  change V m c main_arg9 ((((cfgM m hO).win 8).blk t).view.emb (show S1x1024x256.Idx from ix3 0 k h)) = V m c main_arg9 _
  refine congrArg (V m c main_arg9) (funext fun a => match a with | ⟨0, _⟩ => Fin.ext ?_ | ⟨1, _⟩ => Fin.ext ?_ | ⟨2, _⟩ => Fin.ext ?_)
  · show cc0_transform_8 k0_off1_inb numel1_S1 (tbl m) (grid0.coords t) 0 * 1 + 1 * 0 = e.val
    rw [hr]; show (eidx (tbl m 0) (grid0.coords t)).toNat * 1 + 1 * 0 = e.val
    omega
  · show cc0_transform_8 k0_off1_inb numel1_S1 (tbl m) (grid0.coords t) 1 * 1024 + 1 * k.val = k.val
    rw [hr]; show 0 * 1024 + 1 * k.val = k.val
    omega
  · show cc0_transform_8 k0_off1_inb numel1_S1 (tbl m) (grid0.coords t) 2 * 256 + 1 * h.val = h.val
    rw [hr]; show 0 * 256 + 1 * h.val = h.val
    omega

theorem in9 (h : Fin 256) (e : Fin 16) (he : (eidx (tbl m 0) (grid0.coords t)).toNat = e.val) :
    (iblk m hO c 9 t : Vec F S1x1x256 .f32) (ix3 0 0 h) = (V m c main_arg10 : Vec F S16x1x256 .f32) (ix3 e 0 h) := by
  have hr := tr9_eq (tbl m) (grid0.coords t)
  change V m c main_arg10 ((((cfgM m hO).win 9).blk t).view.emb (show S1x1x256.Idx from ix3 0 0 h)) = V m c main_arg10 _
  refine congrArg (V m c main_arg10) (funext fun a => match a with | ⟨0, _⟩ => Fin.ext ?_ | ⟨1, _⟩ => Fin.ext ?_ | ⟨2, _⟩ => Fin.ext ?_)
  · show cc0_transform_9 k0_off1_inb numel1_S1 (tbl m) (grid0.coords t) 0 * 1 + 1 * 0 = e.val
    rw [hr]; show (eidx (tbl m 0) (grid0.coords t)).toNat * 1 + 1 * 0 = e.val
    omega
  · show cc0_transform_9 k0_off1_inb numel1_S1 (tbl m) (grid0.coords t) 1 * 1 + 1 * 0 = 0
    rw [hr]; show 0 * 1 + 1 * 0 = 0
    omega
  · show cc0_transform_9 k0_off1_inb numel1_S1 (tbl m) (grid0.coords t) 2 * 256 + 1 * h.val = h.val
    rw [hr]; show 0 * 256 + 1 * h.val = h.val
    omega

theorem in10 (k : Fin 256) (h : Fin 1024) (e : Fin 16) (he : (cidx (tbl m 0) (grid0.coords t)).toNat = e.val) :
    (iblk m hO c 10 t : Vec F S1x256x1024 .f32) (ix3 0 k h) = (V m c main_arg11 : Vec F S16x256x1024 .f32) (ix3 e k h) := by
  have hr := tr10_eq (tbl m) (grid0.coords t)
  change V m c main_arg11 ((((cfgM m hO).win 10).blk t).view.emb (show S1x256x1024.Idx from ix3 0 k h)) = V m c main_arg11 _
  refine congrArg (V m c main_arg11) (funext fun a => match a with | ⟨0, _⟩ => Fin.ext ?_ | ⟨1, _⟩ => Fin.ext ?_ | ⟨2, _⟩ => Fin.ext ?_)
  · show cc0_transform_10 k0_off2_inb numel1_S1 (tbl m) (grid0.coords t) 0 * 1 + 1 * 0 = e.val
    rw [hr]; show (cidx (tbl m 0) (grid0.coords t)).toNat * 1 + 1 * 0 = e.val
    omega
  · show cc0_transform_10 k0_off2_inb numel1_S1 (tbl m) (grid0.coords t) 1 * 256 + 1 * k.val = k.val
    rw [hr]; show 0 * 256 + 1 * k.val = k.val
    omega
  · show cc0_transform_10 k0_off2_inb numel1_S1 (tbl m) (grid0.coords t) 2 * 1024 + 1 * h.val = h.val
    rw [hr]; show 0 * 1024 + 1 * h.val = h.val
    omega

theorem in11 (h : Fin 1024) (e : Fin 16) (he : (cidx (tbl m 0) (grid0.coords t)).toNat = e.val) :
    (iblk m hO c 11 t : Vec F S1x1x1024 .f32) (ix3 0 0 h) = (V m c main_arg12 : Vec F S16x1x1024 .f32) (ix3 e 0 h) := by
  have hr := tr11_eq (tbl m) (grid0.coords t)
  change V m c main_arg12 ((((cfgM m hO).win 11).blk t).view.emb (show S1x1x1024.Idx from ix3 0 0 h)) = V m c main_arg12 _
  refine congrArg (V m c main_arg12) (funext fun a => match a with | ⟨0, _⟩ => Fin.ext ?_ | ⟨1, _⟩ => Fin.ext ?_ | ⟨2, _⟩ => Fin.ext ?_)
  · show cc0_transform_11 k0_off2_inb numel1_S1 (tbl m) (grid0.coords t) 0 * 1 + 1 * 0 = e.val
    rw [hr]; show (cidx (tbl m 0) (grid0.coords t)).toNat * 1 + 1 * 0 = e.val
    omega
  · show cc0_transform_11 k0_off2_inb numel1_S1 (tbl m) (grid0.coords t) 1 * 1 + 1 * 0 = 0
    rw [hr]; show 0 * 1 + 1 * 0 = 0
    omega
  · show cc0_transform_11 k0_off2_inb numel1_S1 (tbl m) (grid0.coords t) 2 * 1024 + 1 * h.val = h.val
    rw [hr]; show 0 * 1024 + 1 * h.val = h.val
    omega

theorem in12 (k : Fin 1024) (h : Fin 256) (e : Fin 16) (he : (cidx (tbl m 0) (grid0.coords t)).toNat = e.val) :
    (iblk m hO c 12 t : Vec F S1x1024x256 .f32) (ix3 0 k h) = (V m c main_arg13 : Vec F S16x1024x256 .f32) (ix3 e k h) := by
  have hr := tr12_eq (tbl m) (grid0.coords t)
  change V m c main_arg13 ((((cfgM m hO).win 12).blk t).view.emb (show S1x1024x256.Idx from ix3 0 k h)) = V m c main_arg13 _
  refine congrArg (V m c main_arg13) (funext fun a => match a with | ⟨0, _⟩ => Fin.ext ?_ | ⟨1, _⟩ => Fin.ext ?_ | ⟨2, _⟩ => Fin.ext ?_)
  · show cc0_transform_12 k0_off2_inb numel1_S1 (tbl m) (grid0.coords t) 0 * 1 + 1 * 0 = e.val
    rw [hr]; show (cidx (tbl m 0) (grid0.coords t)).toNat * 1 + 1 * 0 = e.val
    omega
  · show cc0_transform_12 k0_off2_inb numel1_S1 (tbl m) (grid0.coords t) 1 * 1024 + 1 * k.val = k.val
    rw [hr]; show 0 * 1024 + 1 * k.val = k.val
    omega
  · show cc0_transform_12 k0_off2_inb numel1_S1 (tbl m) (grid0.coords t) 2 * 256 + 1 * h.val = h.val
    rw [hr]; show 0 * 256 + 1 * h.val = h.val
    omega

theorem in13 (h : Fin 256) (e : Fin 16) (he : (cidx (tbl m 0) (grid0.coords t)).toNat = e.val) :
    (iblk m hO c 13 t : Vec F S1x1x256 .f32) (ix3 0 0 h) = (V m c main_arg14 : Vec F S16x1x256 .f32) (ix3 e 0 h) := by
  have hr := tr13_eq (tbl m) (grid0.coords t)
  change V m c main_arg14 ((((cfgM m hO).win 13).blk t).view.emb (show S1x1x256.Idx from ix3 0 0 h)) = V m c main_arg14 _
  refine congrArg (V m c main_arg14) (funext fun a => match a with | ⟨0, _⟩ => Fin.ext ?_ | ⟨1, _⟩ => Fin.ext ?_ | ⟨2, _⟩ => Fin.ext ?_)
  · show cc0_transform_13 k0_off2_inb numel1_S1 (tbl m) (grid0.coords t) 0 * 1 + 1 * 0 = e.val
    rw [hr]; show (cidx (tbl m 0) (grid0.coords t)).toNat * 1 + 1 * 0 = e.val
    omega
  · show cc0_transform_13 k0_off2_inb numel1_S1 (tbl m) (grid0.coords t) 1 * 1 + 1 * 0 = 0
    rw [hr]; show 0 * 1 + 1 * 0 = 0
    omega
  · show cc0_transform_13 k0_off2_inb numel1_S1 (tbl m) (grid0.coords t) 2 * 256 + 1 * h.val = h.val
    rw [hr]; show 0 * 256 + 1 * h.val = h.val
    omega

end Cert.KernelIdeal.Hand

end
-- ==== Proof.Payload.lean ====
/- The payloads of the expert kernel read at an index, in the terms of `Spec`. -/
module

public import proofs.«01_k».proof.Proof.Gen.KernelIdeal.Skeleton
public import proofs.«01_k».proof.Proof.Gen.KernelIdeal
public import proofs.«01_k».proof.Proof.Spec

@[expose] public section

set_option maxRecDepth 16384

noncomputable section

namespace Cert.KernelIdeal.Hand

open Cert.KernelIdeal Cert.KernelIdeal.Gen
open Idealize.ShloMosaic Cert.Spec

/-- The value below every rank that counts: the float nearest -1e30. -/
def low : EReal := Ideal.ofBits .f32 0xF149F2CA#32

/-- Whether token `m` sits in row `j` of the block of expert `e` that begins at rank `r`. -/
def inRow (rank : Vec Ideal S392x16 .f32) (e : Fin 16) (r : BitVec 32) (m : Fin 392) (j : Fin 128) : Prop :=
  low < rank (ix2 m e) ∧ rank (ix2 m e) - ((r.toInt : ℝ) : EReal) = ((j.val : ℝ) : EReal)

open Classical in
/-- The same as a number. -/
def hit (rank : Vec Ideal S392x16 .f32) (e : Fin 16) (r : BitVec 32) (m : Fin 392) (j : Fin 128) : EReal :=
  if inRow rank e r m j then 1 else 0

theorem cmp_col (e x : Fin 16) : IntOp.cmpi CmpIPredicate.eq (BitVec.ofNat 32 x.val) (BitVec.ofNat 32 e.val) = if x = e then 1#1 else 0#1 := by
  revert e x; decide

/-- Of a row, the entry under the column chosen. -/
theorem sum_pick (e : Fin 16) (f : Fin 16 → EReal) :
    ∑ x : Fin 16, Scalar.select (IntOp.cmpi CmpIPredicate.eq (BitVec.ofNat 32 x.val) (BitVec.ofNat 32 e.val)) (f x) 0 = f e := by
  rw [Finset.sum_eq_single e]
  · rw [cmp_col, if_pos rfl]; rfl
  · intro x _ hx; rw [cmp_col, if_neg hx]; rfl
  · intro h; exact absurd (Finset.mem_univ _) h

theorem gate_apply (e : Fin 16) (x3 : Vec Ideal S392x16 .f32) (n : Fin 392) :
    k0_pay7 (F := Ideal) (BitVec.ofNat 32 e.val) x3 (ix2 n (0 : Fin 1)) = x3 (ix2 n e) := by
  pointwise [k0_pay7, k0_pay6]
  exact sum_pick e fun x => x3 (ix2 n x)

theorem float_col (j : Fin 128) : (FloatOps.sitofp FTy.f32 (BitVec.ofNat 32 j.val) : Ideal .f32) = ((j.val : ℝ) : EReal) := by
  have : ((BitVec.ofNat 32 j.val).toInt) = (j.val : Int) := by revert j; decide
  show (((BitVec.ofNat 32 j.val).toInt : ℝ) : EReal) = _
  rw [this]; norm_cast

/-- A bit, widened and read as a number. -/
def bitVal (b : BitVec 1) : EReal := (FloatOps.sitofp FTy.f32 (BitVec.setWidth 32 b) : Ideal .f32)

theorem bit_num (b : BitVec 1) : bitVal b = if b = 1#1 then 1 else 0 := by
  show (((BitVec.setWidth 32 b).toInt : ℝ) : EReal) = _
  rcases (show b = 0#1 ∨ b = 1#1 by revert b; decide) with rfl | rfl <;> simp

theorem hit_apply (e : Fin 16) (r : BitVec 32) (x4 : Vec Ideal S392x16 .f32) (n : Fin 392) (j : Fin 128) :
    bitVal (k0_pay8 (F := Ideal) (BitVec.ofNat 32 e.val) r x4 x4 (ix2 n j)) = hit x4 e r n j := by
  rw [bit_num]
  pointwise [k0_pay8, k0_pay6]
  rw [sum_pick e fun x => if Ideal.ofBits FTy.f32 4048155338#32 < x4 (ix2 n x) then (1 : EReal) else 0, sum_pick e fun x => x4 (ix2 n x),
    float_col]
  unfold hit inRow low
  have hp : ∀ P : Prop, [Decidable P] → ((0 : EReal) < (if P then 1 else 0) ↔ P) := by
    intro P _; by_cases h : P <;> simp [h]
  have hb : ∀ P Q : Prop, [Decidable P] → [Decidable Q] → [Decidable (P ∧ Q)] →
      (if IntOp.andi (BitVec.ofBool (decide P)) (BitVec.ofBool (decide Q)) = 1#1 then (1 : EReal) else 0) = if P ∧ Q then 1 else 0 := by
    intro P Q _ _ _; by_cases h : P <;> by_cases h' : Q <;> simp [h, h', IntOp.andi]
  simp only [hp]
  exact @hb _ _ _ _ (Classical.propDecidable _)

theorem block_apply (v57 : FVec Ideal S392x1 .f32) (v68 : IVec S392x128 1) (v71 : Vec Ideal S392x256 .f32) (v73 : Vec Ideal S1x256x1024 .f32)
    (v76 : Vec Ideal S1x1x1024 .f32) (v85 : Vec Ideal S1x1024x256 .f32) (v88 : Vec Ideal S1x1x256 .f32) (v94 : Vec Ideal S392x256 .f32)
    (n : Fin 392) (c : Fin 256) :
    k0_pay3 (F := Ideal) v57 v68 v71 v73 v76 v85 v88 v94 (ix2 n c)
      = v94 (ix2 n c) + ∑ j : Fin 128, bitVal (v68 (ix2 n j)) * v57 (ix2 n 0)
          * ffn (fun k h => v73 (ix3 0 k h)) (fun h => v76 (ix3 0 0 h)) (fun h c => v85 (ix3 0 h c)) (fun c => v88 (ix3 0 0 c))
              (fun k => ∑ m : Fin 392, bitVal (v68 (ix2 m j)) * v71 (ix2 m k)) c := by
  pointwise [k0_pay3]
  rfl

theorem chanStep_apply (e : Fin 16) (v28 : Vec Ideal S8x256 .f32) (v29 : Vec Ideal S1x256x1024 .f32) (v32 : Vec Ideal S1x1x1024 .f32)
    (v41 : Vec Ideal S1x1024x256 .f32) (v44 : Vec Ideal S1x1x256 .f32) (v48 : Vec Ideal S8x16 .f32) (v56 : Vec Ideal S8x256 .f32)
    (b : Fin 8) (c : Fin 256) :
    k0_pay4 (k0_pay9 (F := Ideal) (BitVec.ofNat 32 e.val) v28 v29 v32 v41 v44 v48 v56) (ix2 b c)
      = v56 (ix2 b c) + v48 (ix2 b e)
          * ffn (fun k h => v29 (ix3 0 k h)) (fun h => v32 (ix3 0 0 h)) (fun h c => v41 (ix3 0 h c)) (fun c => v44 (ix3 0 0 c))
              (fun k => v28 (ix2 b k)) c := by
  pointwise [k0_pay4, k0_pay9]
  rw [sum_pick e fun x => v48 (ix2 b x)]
  rfl

theorem zero1_apply (n : Fin 392) (c : Fin 256) : k0_pay1 (F := Ideal) (ix2 n c) = 0 := by
  pointwise [k0_pay1]

theorem zero2_apply (b : Fin 8) (c : Fin 256) : k0_pay2 (F := Ideal) (ix2 b c) = 0 := by
  pointwise [k0_pay2]

theorem row_of (n : Fin 392) : IntOp.cmpi CmpIPredicate.slt (BitVec.ofNat 32 n.val) 196#32 = if n.val < 196 then 1#1 else 0#1 := by
  revert n; decide

theorem chanOut_apply (x : Vec Ideal S8x256 .f32) (y : Vec Ideal S392x256 .f32) (n : Fin 392) (c : Fin 256) :
    k0_pay10 x y (ix2 n c) = y (ix2 n c) * Spec.sig (x (ix2 ⟨(img n).val, by have := (img n).isLt; omega⟩ c)) := by
  pointwise [k0_pay10]
  rw [row_of, zero_sub, zero_sub]
  refine congrArg (_ * ·) ?_
  by_cases h : n.val < 196
  · rw [if_pos h]
    have : (⟨(img n).val, by have := (img n).isLt; omega⟩ : Fin 8) = 0 := Fin.ext (by show n.val / 196 = 0; omega)
    rw [this]; rfl
  · rw [if_neg h]
    have : (⟨(img n).val, by have := (img n).isLt; omega⟩ : Fin 8) = 1 := Fin.ext (by show n.val / 196 = 1; have := n.isLt; omega)
    rw [this]; rfl

theorem final_apply (v28 : Vec Ideal S8x256 .f32) (v48 : Vec Ideal S392x256 .f32) (sp : Vec Ideal S392x256 .f32)
    (wc0 wc1 ws0 ws1 : Vec Ideal S1x256 .f32) (bc bs : Vec Ideal S1x1 .f32) (n : Fin 392) (c : Fin 256) (a s : EReal)
    (ha : a = ∑ k : Fin 256, k0_pay10 v28 v48 (ix2 n k) * wc0 (ix2 0 k) + ∑ k : Fin 256, sp (ix2 n k) * wc1 (ix2 0 k) + bc (ix2 0 0))
    (hs : s = ∑ k : Fin 256, k0_pay10 v28 v48 (ix2 n k) * ws0 (ix2 0 k) + ∑ k : Fin 256, sp (ix2 n k) * ws1 (ix2 0 k) + bs (ix2 0 0)) :
    k0_pay5 (k0_pay10 v28 v48) sp (k0_pay11 v28 v48 sp wc0 wc1 bc) (k0_pay12 v28 v48 ws0) ws1 bs (ix2 n c)
      = combine (k0_pay10 v28 v48 (ix2 n c)) (sp (ix2 n c)) a s := by
  pointwise [k0_pay5, k0_pay11, k0_pay12]
  rw [← ha, ← hs]
  rfl

end Cert.KernelIdeal.Hand

end
-- ==== Proof.Routed.lean ====
/- The precondition `routed`, read as facts about the routing table, the gates and the ranks. -/
module

public import proofs.«01_k».proof.Defs
public import proofs.«01_k».proof.Proof.Gen.Pre_routed
public import proofs.«01_k».proof.Proof.Words
public import Idealize.ShloMosaic.Lib.ReduceAll
public import Idealize.ShloMosaic.Lib.Pointwise
public import Idealize.ShloMosaic.Lib.IndicatorCount

@[expose] public section

set_option maxRecDepth 16384

noncomputable section

namespace Cert.Words

open Idealize.ShloMosaic

instance : Subsingleton (Pre_routed.S_).Idx := ⟨fun a b => funext fun x => x.elim0⟩

/-- Token block `b` is active, names expert `e`, and its 128 ranks hold token `n`'s. -/
def Holds (d : IVec ⟨1, ![128]⟩ 32) (rank : FVec Ideal ⟨2, ![392, 16]⟩ .f32) (n : Fin 392) (e : Fin 16) (b : Fin 22) : Prop :=
  d (ix1 ⟨b.val, by have := b.isLt; omega⟩) = BitVec.ofNat 32 e.val ∧ d (ix1 ⟨64 + b.val, by have := b.isLt; omega⟩) = 1#32
    ∧ (((d (ix1 ⟨32 + b.val, by have := b.isLt; omega⟩)).toInt : ℝ) : EReal) ≤ rank (ix2 n e)
    ∧ rank (ix2 n e) < (((d (ix1 ⟨32 + b.val, by have := b.isLt; omega⟩)).toInt : ℝ) : EReal) + ((128 : ℝ) : EReal)

/-- Channel slot `k` is in use and names expert `e`. -/
def Serves (d : IVec ⟨1, ![128]⟩ 32) (e : Fin 16) (k : Fin 4) : Prop :=
  d (ix1 ⟨96 + k.val, by have := k.isLt; omega⟩) = BitVec.ofNat 32 e.val ∧ (k.val : Int) < (d (ix1 100)).toInt

/-- What the precondition says: each gate that is not zero has one block for its token and expert, at a whole rank that
    no other token has with that expert, and each channel gate that is not zero has one slot. -/
structure Routed (d : IVec ⟨1, ![128]⟩ 32) (gate rank : FVec Ideal ⟨2, ![392, 16]⟩ .f32) (cgate : FVec Ideal ⟨2, ![8, 16]⟩ .f32) : Prop where
  named : Named d
  placed : ∀ (n : Fin 392) (e : Fin 16), gate (ix2 n e) = 0 ∨ ∃! b, Holds d rank n e b
  whole : ∀ (n : Fin 392) (e : Fin 16), gate (ix2 n e) = 0 ∨ Ideal.liftRound Int.floor (rank (ix2 n e)) = rank (ix2 n e)
  alone : ∀ (n m : Fin 392) (e : Fin 16), n = m ∨ gate (ix2 n e) = 0 ∨ rank (ix2 n e) ≠ rank (ix2 m e)
  used : ∀ (b : Fin 2) (e : Fin 16), cgate (ix2 ⟨b.val, by have := b.isLt; omega⟩ e) = 0 ∨ ∃! k, Serves d e k

theorem or_one (a b : BitVec 1) : IntOp.ori a b = 1#1 ↔ a = 1#1 ∨ b = 1#1 := by revert a b; decide

theorem bool_one (P : Prop) [Decidable P] : BitVec.ofBool (decide P) = 1#1 ↔ P := by by_cases h : P <;> simp [h]

theorem eq_one (a b : BitVec 32) : IntOp.cmpi .eq a b = 1#1 ↔ a = b := by
  show BitVec.ofBool (a == b) = 1#1 ↔ a = b
  by_cases h : a = b
  · simp [h]
  · rw [beq_false_of_ne h]; simp [h]

theorem and_one (a b : BitVec 1) : IntOp.andi a b = 1#1 ↔ a = 1#1 ∧ b = 1#1 := IntOp.andi_eq_one

/-- A count of at most 2³¹ flags that is the word 1 is a count of one. -/
theorem one_flag {N : Nat} (hN : N < 2 ^ 31) (P : Fin N → BitVec 1) (Q : Fin N → Prop) (hQ : ∀ x, P x = 1#1 ↔ Q x)
    (h : BitVec.ofNat 32 (Finset.univ.filter fun x => P x = 1#1).card = 1#32) : ∃! x, Q x := by
  have hc : (Finset.univ.filter fun x => P x = 1#1).card ≤ N := (Finset.card_le_univ _).trans (by simp)
  have h1 : (Finset.univ.filter fun x => P x = 1#1).card = 1 := by
    have := congrArg BitVec.toNat h
    rw [BitVec.toNat_ofNat, Nat.mod_eq_of_lt (by omega)] at this
    exact this
  obtain ⟨x, hx⟩ := Finset.card_eq_one.1 h1
  have hm : ∀ y, Q y ↔ y = x := fun y => by
    rw [← hQ y, ← Finset.mem_singleton (a := x), ← hx, Finset.mem_filter]; simp
  exact ⟨x, (hm x).2 rfl, fun y hy => (hm y).1 hy⟩

theorem f128 : Ideal.ofBits FTy.f32 1124073472#32 = ((128 : ℝ) : EReal) := by
  simp [Ideal.ofBits, Ideal.ieee]
  rw [← EReal.coe_mul]; norm_num

/-- `routed` all ones, decoded. -/
theorem routed_of_pre [Pre_routed.Facts]
    (a0 : IVec Pre_routed.S128 32) (a1 a2 : FVec Ideal Pre_routed.S392x256 .f32) (a3 : FVec Ideal Pre_routed.S8x256 .f32) (a4 a5 : FVec Ideal Pre_routed.S392x16 .f32)
    (a6 : FVec Ideal Pre_routed.S8x16 .f32) (a7 : FVec Ideal Pre_routed.S16x256x1024 .f32) (a8 : FVec Ideal Pre_routed.S16x1x1024 .f32)
    (a9 : FVec Ideal Pre_routed.S16x1024x256 .f32) (a10 : FVec Ideal Pre_routed.S16x1x256 .f32) (a11 : FVec Ideal Pre_routed.S16x256x1024 .f32)
    (a12 : FVec Ideal Pre_routed.S16x1x1024 .f32) (a13 : FVec Ideal Pre_routed.S16x1024x256 .f32) (a14 : FVec Ideal Pre_routed.S16x1x256 .f32)
    (a15 : FVec Ideal Pre_routed.S1x512 .f32) (a16 : FVec Ideal Pre_routed.S1x1 .f32) (a17 : FVec Ideal Pre_routed.S1x512 .f32) (a18 : FVec Ideal Pre_routed.S1x1 .f32)
    (h : Pre_routed.fn (F := Ideal) a0 a1 a2 a3 a4 a5 a6 a7 a8 a9 a10 a11 a12 a13 a14 a15 a16 a17 a18 = fun _ => 1#1) :
    Routed a0 a4 a5 a6 := by
  have e := congrFun h ix0
  dsimp only [Pre_routed.fn, Pre_routed.fn_part1, Pre_routed.fn_part2, Pre_routed.fn_part3, Pre_routed.fn_part4, Pre_routed.fn_part5] at e
  obtain ⟨e, used⟩ := IntOp.andi_eq_one.1 e
  obtain ⟨e, alone⟩ := IntOp.andi_eq_one.1 e
  obtain ⟨e, whole⟩ := IntOp.andi_eq_one.1 e
  obtain ⟨experts, placed⟩ := IntOp.andi_eq_one.1 e
  have w := fun n f => Host.reduce_andi_all _ _ _ _ _ whole (ix2 (n : Fin 392) (f : Fin 16))
  have p := fun n f => Host.reduce_andi_all _ _ _ _ _ placed (ix2 (n : Fin 392) (f : Fin 16))
  have u := fun n f => Host.reduce_andi_all _ _ _ _ _ used (ix2 (n : Fin 2) (f : Fin 16))
  have a := fun n m f => Host.reduce_andi_all _ _ _ _ _ alone (ix3 (n : Fin 392) (m : Fin 392) (f : Fin 16))
  clear used alone whole placed h
  obtain ⟨e1, e2⟩ := IntOp.andi_eq_one.1 experts
  have x1 := fun k => Host.reduce_andi_all _ _ _ _ _ e1 (ix1 (k : Fin 22))
  have x2 := fun k => Host.reduce_andi_all _ _ _ _ _ e2 (ix1 (k : Fin 4))
  clear e1 e2 experts e
  pointwise at x1
  pointwise at x2
  pointwise at w
  pointwise at a
  pointwise at p
  pointwise at u
  simp only [IndicatorCount.fold_addi_setWidth_eq_card, or_one, bool_one, eq_one, f128] at w a p u
  simp only [and_one] at x1 x2
  refine ⟨⟨fun k hk => ?_, fun k hk hk' => ?_⟩, fun n f => (p n f).imp_right fun h => ?_, w, fun n m f => ?_, fun n f => ?_⟩
  · exact lt_of_signed _ (x1 ⟨k.val, hk⟩).1 (x1 ⟨k.val, hk⟩).2
  · obtain rfl | rfl | rfl | rfl : k = 96 ∨ k = 97 ∨ k = 98 ∨ k = 99 := by
      rcases (by omega : k.val = 96 ∨ k.val = 97 ∨ k.val = 98 ∨ k.val = 99) with h | h | h | h <;> simp [Fin.ext_iff, h]
    · exact lt_of_signed _ x2.1.1 x2.1.2
    · exact lt_of_signed _ x2.2.1.1 x2.2.1.2
    · exact lt_of_signed _ x2.2.2.1.1 x2.2.2.1.2
    · exact lt_of_signed _ x2.2.2.2.1 x2.2.2.2.2
  · refine one_flag (by norm_num) _ _ (fun x => ?_) h
    simp only [and_one, bool_one, eq_one, Holds, and_assoc]
    exact and_congr .rfl (and_congr .rfl (and_congr (bool_one _) .rfl))
  · rcases a n m f with h | h
    · rcases h with h | h
      · left
        have := congrArg BitVec.toNat h
        simp only [BitVec.toNat_ofNat] at this
        have := n.isLt; have := m.isLt
        exact Fin.ext (by omega)
      · exact .inr (.inl h)
    · exact .inr (.inr h)
  · have hs : ∀ x : Fin 4, IntOp.andi (IntOp.cmpi CmpIPredicate.eq (a0 (ix1 ⟨96 + x.val, by have := x.isLt; omega⟩)) (BitVec.ofNat 32 f.val))
        (IntOp.cmpi CmpIPredicate.slt (BitVec.ofNat 32 x.val) (a0 (ix1 100))) = 1#1 ↔ Serves a0 f x := fun x => by
      have hx : (BitVec.ofNat 32 x.val).toInt = (x.val : Int) := by revert x; decide
      simp only [and_one, eq_one, Serves, IntOp.cmpi_slt, hx]
    obtain rfl | rfl : n = 0 ∨ n = 1 := by omega
    · exact (u.1 f).imp_right fun h => one_flag (by norm_num) _ _ hs h
    · exact (u.2 f).imp_right fun h => one_flag (by norm_num) _ _ hs h

end Cert.Words

end
-- ==== Proof.Routing.lean ====
/- One token block's contribution under the precondition, and the sum of the contributions over the blocks. -/
module

public import proofs.«01_k».proof.Proof.Payload
public import proofs.«01_k».proof.Proof.Routed

@[expose] public section

set_option maxRecDepth 16384

noncomputable section

namespace Cert.KernelIdeal.Hand

open Cert.KernelIdeal Cert.KernelIdeal.Gen
open Idealize.ShloMosaic Cert.Spec

theorem low_lt (r : BitVec 32) : low < ((r.toInt : ℝ) : EReal) := by
  have h : low ≤ ((-(2 ^ 32) : ℝ) : EReal) := by
    unfold low
    simp [Ideal.ofBits, Ideal.ieee]
    exact_mod_cast (by norm_num : (2 : ℝ) ^ 32 ≤ 13234890 * 2 ^ 76)
  refine lt_of_le_of_lt h ?_
  have := BitVec.le_toInt r
  have hr : (-(2 ^ 31) : ℝ) ≤ (r.toInt : ℝ) := by exact_mod_cast this
  rw [EReal.coe_lt_coe_iff]
  linarith

/-- A row of a block holds the token whose rank is the block's first rank plus the row. -/
theorem inRow_iff (rank : Vec Ideal S392x16 .f32) (e : Fin 16) (r : BitVec 32) (m : Fin 392) (j : Fin 128) :
    inRow rank e r m j ↔ rank (ix2 m e) = (((r.toInt : ℝ) + (j.val : ℝ) : ℝ) : EReal) := by
  unfold inRow
  generalize hx : rank (ix2 m e) = x
  constructor
  · rintro ⟨_, h⟩
    induction x using EReal.rec with
    | bot => simp at h; exact absurd h.symm (EReal.coe_ne_bot _)
    | top => simp at h; exact absurd h.symm (EReal.coe_ne_top _)
    | coe x =>
      rw [← EReal.coe_sub, EReal.coe_eq_coe_iff] at h
      rw [EReal.coe_eq_coe_iff]; linarith
  · rintro rfl
    refine ⟨lt_of_lt_of_le (low_lt r) ?_, ?_⟩
    · rw [EReal.coe_le_coe_iff]; have : (0 : ℝ) ≤ j.val := Nat.cast_nonneg _; linarith
    · rw [← EReal.coe_sub, EReal.coe_eq_coe_iff]; ring

open Classical in
/-- What a block adds to token `n`: its expert's gated output if the block holds the token's rank, nothing otherwise. -/
theorem block_value (rank : Vec Ideal S392x16 .f32) (t : Vec Ideal S392x256 .f32) (e : Fin 16) (r : BitVec 32) (n : Fin 392) (g : EReal)
    (G : (Fin 256 → EReal) → EReal) (hw : g = 0 ∨ Ideal.liftRound Int.floor (rank (ix2 n e)) = rank (ix2 n e))
    (ha : ∀ m, n = m ∨ g = 0 ∨ rank (ix2 n e) ≠ rank (ix2 m e)) :
    ∑ j : Fin 128, hit rank e r n j * g * G (fun k => ∑ m : Fin 392, hit rank e r m j * t (ix2 m k))
      = if ((r.toInt : ℝ) : EReal) ≤ rank (ix2 n e) ∧ rank (ix2 n e) < ((r.toInt : ℝ) : EReal) + ((128 : ℝ) : EReal)
        then g * G (fun k => t (ix2 n k)) else 0 := by
  by_cases hg : g = 0
  · subst hg; simp
  have hz : ∀ j, ¬ inRow rank e r n j → hit rank e r n j * g * G (fun k => ∑ m : Fin 392, hit rank e r m j * t (ix2 m k)) = 0 := by
    intro j hj; simp [hit, hj]
  split_ifs with hin
  · -- the rank is a real number, whole, and in the block
    obtain ⟨x, hx⟩ : ∃ x : ℝ, rank (ix2 n e) = (x : EReal) := by
      generalize rank (ix2 n e) = y at hin
      induction y using EReal.rec with
      | bot => exact absurd hin.1 (by simp)
      | top => exact absurd hin.2 (by simp)
      | coe x => exact ⟨x, rfl⟩
    rw [hx, ← EReal.coe_add, EReal.coe_le_coe_iff, EReal.coe_lt_coe_iff] at hin
    have hf := hw.resolve_left hg
    rw [hx] at hf
    have hf' : ((⌊x⌋ : ℝ) : ℝ) = x := by
      have : (((⌊x⌋ : Int) : ℝ) : EReal) = (x : EReal) := hf
      exact_mod_cast this
    have h0 : r.toInt ≤ ⌊x⌋ := by have := hin.1; rw [← hf'] at this; exact_mod_cast this
    have h1 : ⌊x⌋ < r.toInt + 128 := by have := hin.2; rw [← hf'] at this; exact_mod_cast this
    let j0 : Fin 128 := ⟨(⌊x⌋ - r.toInt).toNat, by omega⟩
    have hj0 : ((j0.val : Nat) : ℝ) = x - (r.toInt : ℝ) := by
      have : ((j0.val : Nat) : Int) = ⌊x⌋ - r.toInt := Int.toNat_of_nonneg (by omega)
      rw [← hf']; exact_mod_cast this
    have hrow : ∀ j, inRow rank e r n j ↔ j = j0 := by
      intro j
      rw [inRow_iff, hx, EReal.coe_eq_coe_iff]
      constructor
      · intro h
        have : (j.val : ℝ) = (j0.val : ℝ) := by rw [hj0]; linarith
        exact Fin.ext (by exact_mod_cast this)
      · rintro rfl; rw [hj0]; ring
    have hcol : ∀ m, inRow rank e r m j0 ↔ m = n := by
      intro m
      constructor
      · intro h
        have e1 := (inRow_iff rank e r m j0).1 h
        have e2 := (inRow_iff rank e r n j0).1 ((hrow j0).2 rfl)
        rcases ha m with h | h | h
        · exact h.symm
        · exact absurd h hg
        · exact absurd (e2.trans e1.symm) h
      · rintro rfl; exact (hrow j0).2 rfl
    rw [Finset.sum_eq_single j0 (fun j _ hj => hz j fun h => hj ((hrow j).1 h)) (fun h => absurd (Finset.mem_univ _) h)]
    have hx1 : hit rank e r n j0 = 1 := if_pos ((hrow j0).2 rfl)
    have hx2 : ∀ k, ∑ m : Fin 392, hit rank e r m j0 * t (ix2 m k) = t (ix2 n k) := by
      intro k
      rw [Finset.sum_eq_single n]
      · rw [hx1, one_mul]
      · intro m _ hm
        have : hit rank e r m j0 = 0 := if_neg fun h => hm ((hcol m).1 h)
        rw [this, zero_mul]
      · intro h; exact absurd (Finset.mem_univ _) h
    simp only [hx1, hx2, one_mul]
  · refine Finset.sum_eq_zero fun j _ => hz j fun h => hin ?_
    rw [inRow_iff] at h
    rw [h, ← EReal.coe_add, EReal.coe_le_coe_iff, EReal.coe_lt_coe_iff]
    have h1 : (0 : ℝ) ≤ j.val := Nat.cast_nonneg _
    have h2 : (j.val : ℝ) < 128 := by exact_mod_cast j.isLt
    constructor <;> linarith

open Classical in
/-- A sum over the blocks that each serve one expert is a sum over the experts, when each expert that counts is served once. -/
theorem sum_route {β : Type} [Fintype β] (sel : β → Fin 16) (on : Fin 16 → β → Prop) (F : Fin 16 → EReal)
    (h : ∀ e, F e = 0 ∨ ∃! b, sel b = e ∧ on e b) :
    ∑ b : β, (if on (sel b) b then F (sel b) else 0) = ∑ e : Fin 16, F e := by
  have h1 : ∀ b : β, (if on (sel b) b then F (sel b) else 0) = ∑ e : Fin 16, if sel b = e ∧ on e b then F e else 0 := by
    intro b
    rw [Finset.sum_eq_single (sel b)]
    · simp
    · intro e _ he; rw [if_neg fun h => he h.1.symm]
    · intro h; exact absurd (Finset.mem_univ _) h
  rw [Finset.sum_congr rfl fun b _ => h1 b, Finset.sum_comm]
  refine Finset.sum_congr rfl fun e _ => ?_
  rcases h e with h | ⟨b, hb, hu⟩
  · simp [h]
  · rw [Finset.sum_eq_single b]
    · rw [if_pos hb]
    · intro b' _ hb'; rw [if_neg fun h => hb' (hu b' h)]
    · intro h; exact absurd (Finset.mem_univ _) h

end Cert.KernelIdeal.Hand

end
-- ==== Proof.Sums.lean ====
/- What each block and each slot adds, and that under `routed` the 22 blocks add the mixture of each token and the 4 slots
   the mixture of each image. -/
module

public import proofs.«01_k».proof.Proof.Routing

@[expose] public section

set_option maxRecDepth 16384

noncomputable section

namespace Cert.KernelIdeal.Hand

open Cert.KernelIdeal Cert.KernelIdeal.Gen
open Idealize.ShloMosaic Cert.Spec Cert.Words

/-- The expert a word names. -/
def expOf (w : BitVec 32) : Fin 16 := ⟨w.toNat % 16, Nat.mod_lt _ (by norm_num)⟩

theorem expOf_val (w : BitVec 32) (h : w.toNat < 16) : (expOf w).val = w.toNat := Nat.mod_eq_of_lt h

theorem word_expOf (w : BitVec 32) (h : w.toNat < 16) : w = BitVec.ofNat 32 (expOf w).val := by
  rw [expOf_val w h]; simp

theorem expOf_iff (w : BitVec 32) (h : w.toNat < 16) (e : Fin 16) : expOf w = e ↔ w = BitVec.ofNat 32 e.val := by
  constructor
  · rintro rfl; exact word_expOf w h
  · intro hw
    refine Fin.ext ?_
    rw [expOf_val w h, hw, BitVec.toNat_ofNat, Nat.mod_eq_of_lt (by have := e.isLt; omega)]

variable (d : IVec S128 32) (t : FVec Ideal S392x256 .f32) (pooled : FVec Ideal S8x256 .f32) (gate rank : FVec Ideal S392x16 .f32) (cgate : FVec Ideal S8x16 .f32)
  (W1 : FVec Ideal S16x256x1024 .f32) (b1 : FVec Ideal S16x1x1024 .f32) (W2 : FVec Ideal S16x1024x256 .f32) (b2 : FVec Ideal S16x1x256 .f32)

/-- The words of block `b`: its expert, first rank and activity; the expert of slot `k`. -/
def wExp (b : Fin 22) : BitVec 32 := d (ix1 ⟨b.val, by have := b.isLt; omega⟩)
def wRank (b : Fin 22) : BitVec 32 := d (ix1 ⟨32 + b.val, by have := b.isLt; omega⟩)
def wAct (b : Fin 22) : BitVec 32 := d (ix1 ⟨64 + b.val, by have := b.isLt; omega⟩)
def wSlot (k : Fin 4) : BitVec 32 := d (ix1 ⟨96 + k.val, by have := k.isLt; omega⟩)

/-- What block `b` adds to entry `c` of token `n`. -/
def blockTerm (b : Fin 22) (n : Fin 392) (c : Fin 256) : EReal :=
  ∑ j : Fin 128, hit rank (expOf (wExp d b)) (wRank d b) n j * gate (ix2 n (expOf (wExp d b)))
    * expert W1 b1 W2 b2 (expOf (wExp d b)) (fun k => ∑ m : Fin 392, hit rank (expOf (wExp d b)) (wRank d b) m j * t (ix2 m k)) c

def blockAdd (b : Fin 22) (n : Fin 392) (c : Fin 256) : EReal :=
  if wAct d b = 1#32 then blockTerm d t gate rank W1 b1 W2 b2 b n c else 0

/-- What slot `k` adds to entry `c` of image row `b`. -/
def slotTerm (k : Fin 4) (b : Fin 8) (c : Fin 256) : EReal :=
  cgate (ix2 b (expOf (wSlot d k))) * expert W1 b1 W2 b2 (expOf (wSlot d k)) (fun k => pooled (ix2 b k)) c

def slotAdd (k : Fin 4) (b : Fin 8) (c : Fin 256) : EReal :=
  if (k.val : Int) < (d (ix1 100)).toInt then slotTerm d pooled cgate W1 b1 W2 b2 k b c else 0

/-- The blocks add up to the token's mixture. -/
theorem blocks_sum (h : Routed d gate rank cgate) (n : Fin 392) (c : Fin 256) :
    ∑ b : Fin 22, blockAdd d t gate rank W1 b1 W2 b2 b n c = spat t gate W1 b1 W2 b2 n c := by
  classical
  have hw : ∀ b : Fin 22, (wExp d b).toNat < 16 := fun b => h.named.1 _ b.isLt
  unfold spat mix
  rw [← sum_route (fun b : Fin 22 => expOf (wExp d b)) (fun e b => wAct d b = 1#32 ∧ (((wRank d b).toInt : ℝ) : EReal) ≤ rank (ix2 n e)
      ∧ rank (ix2 n e) < (((wRank d b).toInt : ℝ) : EReal) + ((128 : ℝ) : EReal))
    (fun e => gate (ix2 n e) * expert W1 b1 W2 b2 e (fun k => t (ix2 n k)) c)]
  · refine Finset.sum_congr rfl fun b _ => ?_
    unfold blockAdd blockTerm
    rw [block_value rank t (expOf (wExp d b)) (wRank d b) n (gate (ix2 n (expOf (wExp d b))))
      (fun x => expert W1 b1 W2 b2 (expOf (wExp d b)) x c) (h.whole n _) (fun m => h.alone n m _)]
    by_cases ha : wAct d b = 1#32
    · simp only [ha, true_and, if_true]
    · simp only [ha, false_and, if_false]
  · intro e
    refine (h.placed n e).imp (fun hz => by simp only [hz, zero_mul]) fun hb => ?_
    refine (existsUnique_congr fun b => ?_).1 hb
    rw [expOf_iff _ (hw b)]
    exact Iff.rfl

/-- The slots add up to the image's mixture. -/
theorem slots_sum (h : Routed d gate rank cgate) (b : Fin 2) (c : Fin 256) :
    ∑ k : Fin 4, slotAdd d pooled cgate W1 b1 W2 b2 k ⟨b.val, by have := b.isLt; omega⟩ c
      = mix W1 b1 W2 b2 (fun e => cgate (ix2 ⟨b.val, by have := b.isLt; omega⟩ e)) (fun k => pooled (ix2 ⟨b.val, by have := b.isLt; omega⟩ k)) c := by
  classical
  have hw : ∀ k : Fin 4, (wSlot d k).toNat < 16 := fun k => h.named.2 _ (Nat.le_add_right _ _) (by show 96 + k.val < 100; omega)
  unfold mix
  rw [← sum_route (fun k : Fin 4 => expOf (wSlot d k)) (fun _ k => (k.val : Int) < (d (ix1 100)).toInt)
    (fun e => cgate (ix2 ⟨b.val, by have := b.isLt; omega⟩ e) * expert W1 b1 W2 b2 e (fun k => pooled (ix2 ⟨b.val, by have := b.isLt; omega⟩ k)) c)]
  · refine Finset.sum_congr rfl fun k _ => ?_
    unfold slotAdd slotTerm
    congr
  · intro e
    refine (h.used b e).imp (fun hz => by simp only [hz, zero_mul]) fun hb => ?_
    refine (existsUnique_congr fun k => ?_).1 hb
    rw [expOf_iff _ (hw k)]
    exact Iff.rfl

end Cert.KernelIdeal.Hand

end
-- ==== Proof.Steps.lean ====
/- One grid point's effect on the two accumulators and the result, over the extended reals. -/
module

public import proofs.«01_k».proof.Proof.Reads
public import proofs.«01_k».proof.Proof.Blocks
public import proofs.«01_k».proof.Proof.Sums

@[expose] public section

set_option maxRecDepth 16384

noncomputable section

namespace Cert.KernelIdeal.Hand

open Cert.KernelIdeal Cert.KernelIdeal.Gen
open Idealize.ShloMosaic Idealize.ShloMosaic.TcCoe Cert.Spec Cert.Words

theorem off3_eq (i : grid0.Coords) : k0_off3 i = ![64 + (blk i).val] := by
  have : ∀ n : Fin 26, (Scalar.indexCast (Scalar.addi 64#32 (Scalar.minsi (BitVec.ofNat 32 n.val) 21#32))).toNat = 64 + min n.val 21 := by decide
  unfold k0_off3
  exact congrArg (fun x => ![x]) (this (i 0))

theorem off4_eq (i : grid0.Coords) : k0_off4 i = ![(blk i).val] := by
  unfold k0_off4
  exact congrArg (fun x => ![x]) (off1_val (i 0))

theorem off5_eq (i : grid0.Coords) : k0_off5 i = ![32 + (blk i).val] := by
  have : ∀ n : Fin 26, (Scalar.indexCast (Scalar.addi 32#32 (Scalar.minsi (BitVec.ofNat 32 n.val) 21#32))).toNat = 32 + min n.val 21 := by decide
  unfold k0_off5
  exact congrArg (fun x => ![x]) (this (i 0))

theorem off6_eq (i : grid0.Coords) : k0_off6 i = ![96 + (slot i).val] := by
  unfold k0_off6
  exact congrArg (fun x => ![x]) (off2_val (i 0))

theorem flag_ne (b : BitVec 1) : Scalar.cmpi .ne (Scalar.extui b : BitVec 32) 0#32 = 1#1 ↔ b = 1#1 := by revert b; decide

/-- A point takes a token block when it is below 22 and the block is active. -/
theorem cond1_iff (i : grid0.Coords) (w : BitVec 32) : cond0_1 i w ↔ (i 0).val < 22 ∧ w = 1#32 := by
  have h : ∀ n : Fin 26, Scalar.cmpi .slt (BitVec.ofNat 32 n.val) 22#32 = 1#1 ↔ n.val < 22 := by decide
  unfold cond0_1
  rw [flag_ne]
  exact (and_one _ _).trans (and_congr (h (i 0)) (eq_one _ _))

/-- A point takes a channel slot when it is 22 or more and the slot's number is below the count. -/
theorem cond2_iff (i : grid0.Coords) (w : BitVec 32) : cond0_2 i w ↔ 22 ≤ (i 0).val ∧ (((i 0).val - 22 : Nat) : Int) < w.toInt := by
  have h : ∀ n : Fin 26, Scalar.cmpi .sge (BitVec.ofNat 32 n.val) 22#32 = 1#1 ↔ 22 ≤ n.val := by decide
  have h' : ∀ n : Fin 26, 22 ≤ n.val → (Scalar.subi (BitVec.ofNat 32 n.val) 22#32).toInt = ((n.val - 22 : Nat) : Int) := by decide
  unfold cond0_2
  rw [flag_ne]
  refine (and_one _ _).trans ⟨fun ⟨a, b⟩ => ⟨(h (i 0)).1 a, ?_⟩, fun ⟨a, b⟩ => ⟨(h (i 0)).2 a, ?_⟩⟩
  · rw [← h' (i 0) ((h (i 0)).1 a)]; exact IntOp.cmpi_slt.1 b
  · rw [← h' (i 0) a] at b; exact IntOp.cmpi_slt.2 b

variable (m : (ℓ : Loc nD τ sig) → Buf (Elt Ideal) ℓ) (hO : Ok m) (c : Dev nD)

/-- A word the kernel reads is the table's. -/
theorem word_eq (o : Fin 128) (off : Fin 1 → Nat) (ho : off = ![o.val]) (h : ∀ a, off a + S1.size a ≤ S128.size a) :
    word c (tbl m 0) off h = (tbl m 0 : IVec S128 32) (ix1 o) :=
  word_at (tbl m 0) o off ho h _

/-- The coordinate of point `t` is `t`. -/
theorem coord_eq (t : Fin (cfgM m hO).N) : (grid0.coords t 0).val = t.val := by
  have : ∀ t : Fin grid0.N, (grid0.coords t 0).val = t.val := by decide
  exact this t

abbrev tb : IVec S128 32 := tbl m 0

/-- What point `n` adds to the token accumulator. -/
def pointS (n : Nat) (x : Fin 392) (y : Fin 256) : EReal :=
  if h : n < 22 then blockAdd (tb m) (V m c main_arg1) (V m c main_arg4) (V m c main_arg5) (V m c main_arg7) (V m c main_arg8) (V m c main_arg9) (V m c main_arg10) ⟨n, h⟩ x y
  else 0

/-- What point `n` adds to the channel accumulator. -/
def pointC (n : Nat) (x : Fin 8) (y : Fin 256) : EReal :=
  if h : 22 ≤ n ∧ n < 26 then slotAdd (tb m) (V m c main_arg3) (V m c main_arg6) (V m c main_arg11) (V m c main_arg12) (V m c main_arg13) (V m c main_arg14) ⟨n - 22, by omega⟩ x y
  else 0

/-- The step of a point that takes a token block. -/
theorem block_step (hd : Named (tb m)) (t : Fin (cfgM m hO).N) (ht : t.val < 22) (acc : Vec Ideal S392x256 .f32) (x : Fin 392) (y : Fin 256) :
    k0_pay3 (k0_pay7 (word c (tbl m 0) (k0_off4 (grid0.coords t)) (k0_off4_inb _)) (iblk m hO c 3 t))
        (k0_pay8 (word c (tbl m 0) (k0_off4 (grid0.coords t)) (k0_off4_inb _)) (word c (tbl m 0) (k0_off5 (grid0.coords t)) (k0_off5_inb _)) (iblk m hO c 4 t) (iblk m hO c 4 t))
        (iblk m hO c 0 t) (iblk m hO c 6 t) (iblk m hO c 7 t) (iblk m hO c 8 t) (iblk m hO c 9 t) acc (ix2 x y)
      = acc (ix2 x y) + blockTerm (tb m) (V m c main_arg1) (V m c main_arg4) (V m c main_arg5) (V m c main_arg7) (V m c main_arg8) (V m c main_arg9) (V m c main_arg10) ⟨t.val, ht⟩ x y := by
  have hb : (blk (grid0.coords t)).val = t.val := by
    show min (grid0.coords t 0).val 21 = t.val
    rw [coord_eq m hO t]; omega
  have w4 : word c (tbl m 0) (k0_off4 (grid0.coords t)) (k0_off4_inb _) = wExp (tb m) ⟨t.val, ht⟩ := by
    rw [word_eq m c _ _ (off4_eq _)]
    exact congrArg (tb m) (congrArg ix1 (Fin.ext hb))
  have w5 : word c (tbl m 0) (k0_off5 (grid0.coords t)) (k0_off5_inb _) = wRank (tb m) ⟨t.val, ht⟩ := by
    rw [word_eq m c ⟨32 + (blk (grid0.coords t)).val, by omega⟩ _ (off5_eq _)]
    exact congrArg (tb m) (congrArg ix1 (Fin.ext (congrArg (32 + ·) hb)))
  have hlt : (wExp (tb m) ⟨t.val, ht⟩).toNat < 16 := hd.1 _ ht
  have he : (eidx (tbl m 0) (grid0.coords t)).toNat = (expOf (wExp (tb m) ⟨t.val, ht⟩)).val := by
    rw [expOf_val _ hlt]
    exact congrArg BitVec.toNat (congrArg (tb m) (congrArg ix1 (Fin.ext hb)))
  refine (block_apply _ _ _ _ _ _ _ _ x y).trans ?_
  rw [w4, w5]
  unfold blockTerm expert
  refine congrArg (_ + ·) (Finset.sum_congr rfl fun j _ => ?_)
  rw [in3, in4, in0]
  generalize wExp (tb m) ⟨t.val, ht⟩ = w at *
  have hgate := gate_apply (expOf w) (V m c main_arg4) x
  have hhit := fun n => hit_apply (expOf w) (wRank (tb m) ⟨t.val, ht⟩) (V m c main_arg5) n j
  rw [← word_expOf w hlt] at hgate hhit
  rw [hgate]
  simp only [hhit]
  simp only [fun k h => in6 m hO c t k h _ he, fun h => in7 m hO c t h _ he, fun k h => in8 m hO c t k h _ he, fun h => in9 m hO c t h _ he]

/-- The step of a point that takes a channel slot. -/
theorem slot_step (hd : Named (tb m)) (t : Fin (cfgM m hO).N) (ht : 22 ≤ t.val ∧ t.val < 26) (acc : Vec Ideal S8x256 .f32) (x : Fin 8) (y : Fin 256) :
    k0_pay4 (k0_pay9 (word c (tbl m 0) (k0_off6 (grid0.coords t)) (k0_off6_inb _)) (iblk m hO c 2 t) (iblk m hO c 10 t) (iblk m hO c 11 t) (iblk m hO c 12 t) (iblk m hO c 13 t)
        (iblk m hO c 5 t) acc) (ix2 x y)
      = acc (ix2 x y) + slotTerm (tb m) (V m c main_arg3) (V m c main_arg6) (V m c main_arg11) (V m c main_arg12) (V m c main_arg13) (V m c main_arg14) ⟨t.val - 22, by omega⟩ x y := by
  have hb : (slot (grid0.coords t)).val = t.val - 22 := by
    show min 3 ((grid0.coords t 0).val - 22) = t.val - 22
    rw [coord_eq m hO t]; omega
  have w6 : word c (tbl m 0) (k0_off6 (grid0.coords t)) (k0_off6_inb _) = wSlot (tb m) ⟨t.val - 22, by omega⟩ := by
    rw [word_eq m c ⟨96 + (slot (grid0.coords t)).val, by omega⟩ _ (off6_eq _)]
    exact congrArg (tb m) (congrArg ix1 (Fin.ext (congrArg (96 + ·) hb)))
  have hlt : (wSlot (tb m) ⟨t.val - 22, by omega⟩).toNat < 16 := hd.2 _ (Nat.le_add_right _ _) (by show 96 + (t.val - 22) < 100; omega)
  have he : (cidx (tbl m 0) (grid0.coords t)).toNat = (expOf (wSlot (tb m) ⟨t.val - 22, by omega⟩)).val := by
    rw [expOf_val _ hlt]
    exact congrArg BitVec.toNat (congrArg (tb m) (congrArg ix1 (Fin.ext (congrArg (96 + ·) hb))))
  rw [w6, in2, in5]
  unfold slotTerm expert
  generalize wSlot (tb m) ⟨t.val - 22, by omega⟩ = w at *
  have hs := chanStep_apply (expOf w) (V m c main_arg3) (iblk m hO c 10 t) (iblk m hO c 11 t) (iblk m hO c 12 t) (iblk m hO c 13 t) (V m c main_arg6) acc x y
  rw [← word_expOf w hlt] at hs
  refine hs.trans ?_
  simp only [fun k h => in10 m hO c t k h _ he, fun h => in11 m hO c t h _ he, fun k h => in12 m hO c t k h _ he, fun h => in13 m hO c t h _ he]

end Cert.KernelIdeal.Hand

end
-- ==== Proof.Induct.lean ====
/- The accumulators along the grid: what each point adds, and their contents as partial sums. -/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Cert.Spec Cert.Words

variable (m : (ℓ : Loc nD τ sig) → Buf (Elt Ideal) ℓ) (hO : Ok m) (c : Dev nD)

/-- Point `t` takes its token block. -/
abbrev Takes (t : Fin (cfgM m hO).N) : Prop := cond0_1 (grid0.coords t) (word c (tbl m 0) (k0_off3 (grid0.coords t)) (k0_off3_inb (grid0.coords t)))

/-- Point `t` takes its channel slot. -/
abbrev Slots (t : Fin (cfgM m hO).N) : Prop := cond0_2 (grid0.coords t) (word c (tbl m 0) ![100] inb_S128_S1_100)

theorem takes_iff (t : Fin (cfgM m hO).N) : Takes m hO c t ↔ ∃ h : t.val < 22, wAct (tb m) ⟨t.val, h⟩ = 1#32 := by
  unfold Takes
  rw [cond1_iff, coord_eq m hO t]
  constructor
  · rintro ⟨h, hw⟩
    refine ⟨h, ?_⟩
    rw [← hw, word_eq m c ⟨64 + (blk (grid0.coords t)).val, by have : (blk (grid0.coords t)).val ≤ 21 := min_le_right _ _; omega⟩ _ (off3_eq _)]
    refine congrArg (tb m) (congrArg ix1 (Fin.ext (congrArg (64 + ·) ?_)))
    show t.val = min (grid0.coords t 0).val 21
    rw [coord_eq m hO t]; omega
  · rintro ⟨h, hw⟩
    refine ⟨h, ?_⟩
    rw [← hw, word_eq m c ⟨64 + (blk (grid0.coords t)).val, by have : (blk (grid0.coords t)).val ≤ 21 := min_le_right _ _; omega⟩ _ (off3_eq _)]
    refine congrArg (tb m) (congrArg ix1 (Fin.ext (congrArg (64 + ·) ?_)))
    show min (grid0.coords t 0).val 21 = t.val
    rw [coord_eq m hO t]; omega

theorem slots_iff (t : Fin (cfgM m hO).N) : Slots m hO c t ↔ 22 ≤ t.val ∧ ((t.val - 22 : Nat) : Int) < ((tb m) (ix1 100)).toInt := by
  unfold Slots
  rw [cond2_iff, coord_eq m hO t, word_eq m c ⟨100, by decide⟩ ![100] rfl]
  exact Iff.rfl

theorem pointS_take (t : Fin (cfgM m hO).N) (h : Takes m hO c t) (x : Fin 392) (y : Fin 256) :
    ∃ ht : t.val < 22, pointS m c t.val x y = blockTerm (tb m) (V m c main_arg1) (V m c main_arg4) (V m c main_arg5) (V m c main_arg7) (V m c main_arg8) (V m c main_arg9) (V m c main_arg10) ⟨t.val, ht⟩ x y := by
  obtain ⟨ht, hw⟩ := (takes_iff m hO c t).1 h
  refine ⟨ht, ?_⟩
  unfold pointS blockAdd
  rw [dif_pos ht, if_pos hw]

theorem pointS_skip (t : Fin (cfgM m hO).N) (h : ¬Takes m hO c t) (x : Fin 392) (y : Fin 256) : pointS m c t.val x y = 0 := by
  unfold pointS blockAdd
  by_cases ht : t.val < 22
  · rw [dif_pos ht, if_neg fun hw => h ((takes_iff m hO c t).2 ⟨ht, hw⟩)]
  · rw [dif_neg ht]

theorem pointC_take (t : Fin (cfgM m hO).N) (h : Slots m hO c t) (x : Fin 8) (y : Fin 256) :
    ∃ ht : 22 ≤ t.val ∧ t.val < 26, pointC m c t.val x y = slotTerm (tb m) (V m c main_arg3) (V m c main_arg6) (V m c main_arg11) (V m c main_arg12) (V m c main_arg13) (V m c main_arg14) ⟨t.val - 22, by omega⟩ x y := by
  obtain ⟨ht, hw⟩ := (slots_iff m hO c t).1 h
  have hN : t.val < 26 := t.isLt
  refine ⟨⟨ht, hN⟩, ?_⟩
  unfold pointC slotAdd
  rw [dif_pos ⟨ht, hN⟩, if_pos hw]

theorem pointC_skip (t : Fin (cfgM m hO).N) (h : ¬Slots m hO c t) (x : Fin 8) (y : Fin 256) : pointC m c t.val x y = 0 := by
  unfold pointC slotAdd
  by_cases ht : 22 ≤ t.val ∧ t.val < 26
  · rw [dif_pos ht, if_neg fun hw => h ((slots_iff m hO c t).2 ⟨ht.1, hw⟩)]
  · rw [dif_neg ht]

/-- The first point starts both accumulators from zero. -/
theorem first (hd : Named (tb m)) (t : Fin (cfgM m hO).N) (h0 : t.val % 26 = 0) :
    (∀ x y, (outsAt0 m hO c t.val t.isLt).2.1 (ix2 x y) = pointS m c t.val x y)
    ∧ ∀ x y, (outsAt0 m hO c t.val t.isLt).2.2 (ix2 x y) = pointC m c t.val x y := by
  have h3 : ¬t.val % 26 = 25 := by omega
  have hN : t.val < 26 := t.isLt
  have h2 : ¬Slots m hO c t := fun h => by have := ((slots_iff m hO c t).1 h).1; omega
  by_cases h1 : Takes m hO c t
  · rw [outsAt0_B m hO c t h0 h1 h2 h3]
    dsimp only
    refine ⟨fun x y => ?_, fun x y => ?_⟩
    · obtain ⟨ht, hp⟩ := pointS_take m hO c t h1 x y
      rw [hp]
      refine (congrFun (acc_B ..) _).trans ((block_step m hO c hd t ht _ x y).trans ?_)
      rw [zero1_apply, zero_add]
    · rw [pointC_skip m hO c t h2]
      exact (congrFun (chan_B ..) _).trans (zero2_apply _ _)
  · rw [outsAt0_D m hO c t h0 h1 h2 h3]
    dsimp only
    refine ⟨fun x y => ?_, fun x y => ?_⟩
    · rw [pointS_skip m hO c t h1]
      exact (congrFun (acc_D ..) _).trans (zero1_apply _ _)
    · rw [pointC_skip m hO c t h2]
      exact (congrFun (chan_D ..) _).trans (zero2_apply _ _)

/-- A later point but the last adds its block or slot, or nothing. -/
theorem later (hd : Named (tb m)) (t : Fin (cfgM m hO).N) (h0 : ¬t.val % 26 = 0) (h3 : ¬t.val % 26 = 25) :
    (∀ x y, (outsAt0 m hO c t.val t.isLt).2.1 (ix2 x y) = (outsAt0 m hO c (t.val - 1) (Nat.lt_of_le_of_lt (Nat.sub_le _ _) t.isLt)).2.1 (ix2 x y) + pointS m c t.val x y)
    ∧ ∀ x y, (outsAt0 m hO c t.val t.isLt).2.2 (ix2 x y) = (outsAt0 m hO c (t.val - 1) (Nat.lt_of_le_of_lt (Nat.sub_le _ _) t.isLt)).2.2 (ix2 x y) + pointC m c t.val x y := by
  by_cases h1 : Takes m hO c t
  · have h2 : ¬Slots m hO c t := fun h => by
      have := ((slots_iff m hO c t).1 h).1
      obtain ⟨_, _⟩ := (takes_iff m hO c t).1 h1
      omega
    rw [outsAt0_F m hO c t h0 h1 h2 h3]
    dsimp only
    refine ⟨fun x y => ?_, fun x y => ?_⟩
    · obtain ⟨ht, hp⟩ := pointS_take m hO c t h1 x y
      rw [hp]
      exact (congrFun (acc_F ..) _).trans (block_step m hO c hd t ht _ x y)
    · rw [pointC_skip m hO c t h2, add_zero]
      rfl
  · by_cases h2 : Slots m hO c t
    · rw [outsAt0_G m hO c t h0 h1 h2 h3]
      dsimp only
      refine ⟨fun x y => ?_, fun x y => ?_⟩
      · rw [pointS_skip m hO c t h1, add_zero]
        rfl
      · obtain ⟨ht, hp⟩ := pointC_take m hO c t h2 x y
        rw [hp]
        exact (congrFun (chan_G ..) _).trans (slot_step m hO c hd t ht _ x y)
    · rw [outsAt0_H m hO c t h0 h1 h2 h3]
      dsimp only
      refine ⟨fun x y => ?_, fun x y => ?_⟩
      · rw [pointS_skip m hO c t h1, add_zero]
        rfl
      · rw [pointC_skip m hO c t h2, add_zero]
        rfl

/-- The last point's result: the gate of the two accumulators, its own slot added. -/
theorem last (hd : Named (tb m)) (t : Fin (cfgM m hO).N) (h3 : t.val % 26 = 25) :
    ∃ ch : Vec Ideal S8x256 .f32,
      (∀ x y, ch (ix2 x y) = (outsAt0 m hO c (t.val - 1) (Nat.lt_of_le_of_lt (Nat.sub_le _ _) t.isLt)).2.2 (ix2 x y) + pointC m c t.val x y)
      ∧ (outsAt0 m hO c t.val t.isLt).1 = gateOut (iblk m hO c 1 t) (outsAt0 m hO c (t.val - 1) (Nat.lt_of_le_of_lt (Nat.sub_le _ _) t.isLt)).2.1 ch
          (iblk m hO c 14 t) (iblk m hO c 15 t) (iblk m hO c 16 t) (iblk m hO c 17 t) := by
  have h0 : ¬t.val % 26 = 0 := by omega
  have hN : t.val < 26 := t.isLt
  have h1 : ¬Takes m hO c t := fun h => by obtain ⟨_, _⟩ := (takes_iff m hO c t).1 h; omega
  by_cases h2 : Slots m hO c t
  · rw [outsAt0_K m hO c t h0 h1 h2 h3]
    dsimp only
    refine ⟨_, fun x y => ?_, out_K ..⟩
    obtain ⟨ht, hp⟩ := pointC_take m hO c t h2 x y
    rw [hp]
    exact slot_step m hO c hd t ht _ x y
  · rw [outsAt0_L m hO c t h0 h1 h2 h3]
    dsimp only
    refine ⟨_, fun x y => ?_, out_L ..⟩
    rw [pointC_skip m hO c t h2, add_zero]

/-- After point `n`, the token accumulator is what the points up to `n` add. -/
theorem accs (hd : Named (tb m)) : ∀ (n : Nat) (hn : n < (cfgM m hO).N), n < 25 →
    (∀ x y, (outsAt0 m hO c n hn).2.1 (ix2 x y) = ∑ k ∈ Finset.range (n + 1), pointS m c k x y)
    ∧ ∀ x y, (outsAt0 m hO c n hn).2.2 (ix2 x y) = ∑ k ∈ Finset.range (n + 1), pointC m c k x y
  | 0, hn, _ => by
      have h := first m hO c hd ⟨0, hn⟩ rfl
      refine ⟨fun x y => (h.1 x y).trans ?_, fun x y => (h.2 x y).trans ?_⟩
      · rw [Finset.sum_range_one]
      · rw [Finset.sum_range_one]
  | n + 1, hn, hl => by
      have ih := accs hd n (Nat.lt_of_succ_lt hn) (by omega)
      have h := later m hO c hd ⟨n + 1, hn⟩ (by show ¬(n + 1) % 26 = 0; omega) (by show ¬(n + 1) % 26 = 25; omega)
      refine ⟨fun x y => (h.1 x y).trans ?_, fun x y => (h.2 x y).trans ?_⟩
      · rw [Finset.sum_range_succ]
        exact congrArg (· + _) (ih.1 x y)
      · rw [Finset.sum_range_succ]
        exact congrArg (· + _) (ih.2 x y)

end Cert.KernelIdeal.Hand

end
-- ==== Proof.Final.lean ====
/- The result array after the run, and its value: the reference's. -/
module

public import proofs.«01_k».proof.Proof.Induct
public import proofs.«01_k».proof.Proof.RefValue

@[expose] public section

set_option maxRecDepth 16384

noncomputable section

namespace Cert.KernelIdeal.Hand

open Cert.KernelIdeal Cert.KernelIdeal.Gen
open Idealize.ShloMosaic Idealize.ShloMosaic.TcCoe Cert.Spec Cert.Words

variable (m : (ℓ : Loc nD τ sig) → Buf (Elt Ideal) ℓ) (hO : Ok m) (c : Dev nD)

/-- The last point. -/
abbrev tLast : Fin (cfgM m hO).N := ⟨25, by show 25 < grid0.N; decide⟩

/-- The result array: what the last point leaves. -/
abbrev outArr : Buf (Elt Ideal) ((c : Thread nD τ).loc main_v0) := (outsAt0 m hO c 25 (tLast m hO).isLt).1

theorem emb_out (t : Fin (cfgM m hO).N) (x : S392x256.Idx) : (((cfgM m hO).win 18).blk t).view.emb x = x := by
  refine funext fun a => match a with | ⟨0, _⟩ => Fin.ext ?_ | ⟨1, _⟩ => Fin.ext ?_
  · show 0 * 392 + 1 * (x 0).val = (x 0).val
    omega
  · show 0 * 256 + 1 * (x 1).val = (x 1).val
    omega

theorem flushed_out (t : Fin (cfgM m hO).N) (hf : ((cfgM m hO).win 18).flush t = true) :
    (dats m hO 0 c).flushed 18 t = (((cfgM m hO).win 18).blk t).view.read (Elt Ideal) (outArr m hO c) := by
  have hN : t.val < 26 := t.isLt
  have h3 : t.val = 25 := by have := (flush0_18 _ t).mp hf; omega
  obtain rfl : t = tLast m hO := Fin.ext h3
  show ((cfgM m hO).win 18).cut (grid0.coords (tLast m hO)) ((dats m hO 0 c).after 18 (tLast m hO)) = _
  rw [after0_18]
  refine funext fun (x : S392x256.Idx) => ?_
  refine Eq.trans ?_ (View.read_apply ..).symm
  exact congrArg (outArr m hO c) (emb_out m hO (tLast m hO) x).symm

theorem arr_out : (dats m hO 0 c).arrAt 18 (cfgM m hO).N = outArr m hO c :=
  (dats m hO 0 c).arrAt_eq_of_cover 18 (outArr m hO c) (flushed_out m hO c) fun i =>
    ⟨tLast m hO, (flush0_18 _ (tLast m hO)).mpr rfl, by
      rw [← emb_out m hO (tLast m hO) i]
      exact View.emb_mem_set _ _⟩

/-- The token accumulator's sum is the spatial mixture. -/
theorem sumS (hr : Routed (tb m) (V m c main_arg4) (V m c main_arg5) (V m c main_arg6)) (x : Fin 392) (y : Fin 256) :
    ∑ k ∈ Finset.range 25, pointS m c k x y = spat (V m c main_arg1) (V m c main_arg4) (V m c main_arg7) (V m c main_arg8) (V m c main_arg9) (V m c main_arg10) x y := by
  have hz : ∀ k, 22 ≤ k → pointS m c k x y = 0 := fun k hk => by unfold pointS; rw [dif_neg (by omega)]
  rw [Finset.sum_range_succ, Finset.sum_range_succ, Finset.sum_range_succ, hz 22 (by omega), hz 23 (by omega), hz 24 (by omega), add_zero, add_zero, add_zero,
    Finset.sum_range]
  refine Eq.trans (Finset.sum_congr rfl fun b _ => ?_) (blocks_sum (h := hr) ..)
  unfold pointS
  rw [dif_pos b.isLt]

/-- The channel accumulator's sum, with the last point's, is the channel mixture. -/
theorem sumC (hr : Routed (tb m) (V m c main_arg4) (V m c main_arg5) (V m c main_arg6)) (b : Fin 2) (y : Fin 256) :
    ∑ k ∈ Finset.range 26, pointC m c k ⟨b.val, by omega⟩ y
      = mix (V m c main_arg11) (V m c main_arg12) (V m c main_arg13) (V m c main_arg14) (fun e => V m c main_arg6 (ix2 ⟨b.val, by omega⟩ e)) (fun k => V m c main_arg3 (ix2 ⟨b.val, by omega⟩ k)) y := by
  have hz : ∀ k ∈ Finset.range 22, pointC m c k ⟨b.val, by omega⟩ y = 0 := fun k hk => by
    unfold pointC
    rw [dif_neg (by have := Finset.mem_range.1 hk; omega)]
  rw [Finset.sum_range_add _ 22 4, Finset.sum_eq_zero hz, zero_add, Finset.sum_range]
  refine Eq.trans (Finset.sum_congr rfl fun k _ => ?_) (slots_sum (h := hr) ..)
  have hk := k.isLt
  unfold pointC
  rw [dif_pos ⟨by omega, by omega⟩]
  exact congrArg (fun j => slotAdd (tb m) (V m c main_arg3) (V m c main_arg6) (V m c main_arg11) (V m c main_arg12) (V m c main_arg13) (V m c main_arg14) j _ y) (Fin.ext (by show 22 + k.val - 22 = k.val; omega))

theorem half0 (w : Vec Ideal S1x512 .f32) (k : Fin 256) : View.ld w (Rect.unit ![0, 0] ![1, 256] inb_S1x512_S1x256_0_0) (ix2 0 k) = w (ix2 0 ⟨k.val, by omega⟩) := by
  refine congrArg w (funext fun a => match a with | ⟨0, _⟩ => rfl | ⟨1, _⟩ => Fin.ext ?_)
  show 0 + 1 * k.val = k.val
  omega

theorem half1 (w : Vec Ideal S1x512 .f32) (k : Fin 256) : View.ld w (Rect.unit ![0, 256] ![1, 256] inb_S1x512_S1x256_0_256) (ix2 0 k) = w (ix2 0 ⟨256 + k.val, by omega⟩) := by
  refine congrArg w (funext fun a => match a with | ⟨0, _⟩ => rfl | ⟨1, _⟩ => Fin.ext ?_)
  show 256 + 1 * k.val = 256 + k.val
  omega

theorem logit_eq (u v : Fin 256 → EReal) (u' v' : Fin 256 → EReal) (w : Vec Ideal S1x512 .f32) (b : Vec Ideal S1x1 .f32) (hu : ∀ k, u' k = u k) (hv : ∀ k, v' k = v k) :
    logit w b u v = ∑ k : Fin 256, u' k * View.ld w (Rect.unit ![0, 0] ![1, 256] inb_S1x512_S1x256_0_0) (ix2 0 k)
      + ∑ k : Fin 256, v' k * View.ld w (Rect.unit ![0, 256] ![1, 256] inb_S1x512_S1x256_0_256) (ix2 0 k) + b (ix2 0 0) := by
  unfold logit
  refine congrArg (· + _) (congrArg₂ (· + ·) (Finset.sum_congr rfl fun k _ => ?_) (Finset.sum_congr rfl fun k _ => ?_))
  · exact congrArg₂ (· * ·) (hu k).symm (half0 w k).symm
  · exact congrArg₂ (· * ·) (hv k).symm (half1 w k).symm

/-- The gate of two accumulators whose values are known. -/
theorem gateOut_apply (tok sp : Vec Ideal S392x256 .f32) (ch : Vec Ideal S8x256 .f32) (wc ws : Vec Ideal S1x512 .f32) (bc bs : Vec Ideal S1x1 .f32)
    (C S : Fin 392 → Fin 256 → EReal) (hC : ∀ n c, k0_pay10 ch tok (ix2 n c) = C n c) (hS : ∀ n c, sp (ix2 n c) = S n c) (x : Fin 392) (y : Fin 256) :
    gateOut tok sp ch wc bc ws bs (ix2 x y) = combine (C x y) (S x y) (logit wc bc (C x) (S x)) (logit ws bs (C x) (S x)) := by
  unfold gateOut
  refine (final_apply ch tok sp _ _ _ _ bc bs x y (logit wc bc (C x) (S x)) (logit ws bs (C x) (S x)) ?_ ?_).trans ?_
  · exact logit_eq _ _ _ _ wc bc (hC x) (hS x)
  · exact logit_eq _ _ _ _ ws bs (hC x) (hS x)
  · rw [hC, hS]

/-- The result array is the reference's value. -/
theorem out_value (hd : Named (tb m)) (hr : Routed (tb m) (V m c main_arg4) (V m c main_arg5) (V m c main_arg6)) (x : Fin 392) (y : Fin 256) :
    outArr m hO c (ix2 x y) = result (V m c main_arg1) (V m c main_arg2) (V m c main_arg3) (V m c main_arg4) (V m c main_arg6) (V m c main_arg7) (V m c main_arg8)
      (V m c main_arg9) (V m c main_arg10) (V m c main_arg11) (V m c main_arg12) (V m c main_arg13) (V m c main_arg14) (V m c main_arg15) (V m c main_arg16)
      (V m c main_arg17) (V m c main_arg18) x y := by
  obtain ⟨ch, hch, ho⟩ := last m hO c hd (tLast m hO) rfl
  have hs := accs m hO c hd 24 (Nat.lt_of_le_of_lt (Nat.sub_le 25 1) (tLast m hO).isLt) (by omega)
  have hsp : ∀ n c', (outsAt0 m hO c 24 (Nat.lt_of_le_of_lt (Nat.sub_le 25 1) (tLast m hO).isLt)).2.1 (ix2 n c') = spat (V m c main_arg1) (V m c main_arg4) (V m c main_arg7) (V m c main_arg8) (V m c main_arg9) (V m c main_arg10) n c' :=
    fun n c' => (hs.1 n c').trans (sumS m c hr n c')
  have hcm : ∀ (b : Fin 2) c', ch (ix2 ⟨b.val, by omega⟩ c') = mix (V m c main_arg11) (V m c main_arg12) (V m c main_arg13) (V m c main_arg14) (fun e => V m c main_arg6 (ix2 ⟨b.val, by omega⟩ e)) (fun k => V m c main_arg3 (ix2 ⟨b.val, by omega⟩ k)) c' :=
    fun b c' => (hch _ c').trans (by
      rw [← sumC m c hr b c', Finset.sum_range_succ]
      exact congrArg (· + _) (hs.2 _ c'))
  have hchan : ∀ n c', k0_pay10 ch (V m c main_arg2) (ix2 n c') = chan (V m c main_arg2) (V m c main_arg3) (V m c main_arg6) (V m c main_arg11) (V m c main_arg12) (V m c main_arg13) (V m c main_arg14) n c' := by
    intro n c'
    rw [chanOut_apply]
    unfold chan
    rw [hcm (img n) c']
  refine (congrFun ho (ix2 x y)).trans ?_
  rw [in1, in14, in15, in16, in17]
  exact gateOut_apply _ _ _ _ _ _ _ _ _ hchan hsp x y

end Cert.KernelIdeal.Hand

end
-- ==== Proof.Algebraic.lean ====
/- The claims about the ideal kernel and the reference. -/
module

public import proofs.«01_k».proof.Defs
public import proofs.«01_k».proof.Proof.Final
public import proofs.«01_k».proof.Proof.Routed
public import proofs.«01_k».proof.Proof.TableIdeal
public import proofs.«01_k».proof.Proof.Gen.KernelIdeal
public import proofs.«01_k».proof.Proof.Gen.ReferenceIdeal
public import proofs.«01_k».proof.Proof.Gen.Pre_named
public import proofs.«01_k».proof.Proof.Gen.Pre_routed
public import Idealize.ShloMosaic.Lib.Claim

@[expose] public section

set_option maxRecDepth 16384

noncomputable section

namespace Cert.Proof

open Idealize.ShloMosaic Idealize.SL.Sem Idealize.ShloMosaic.TcCoe

/-- The ideal kernel terminates with its arguments unchanged, when the routing words name experts. -/
theorem frame_ideal : Cert.quiescent_KernelIdeal := fun m g h =>
  Cert.KernelIdeal.Gen.frame m g (Cert.KernelIdeal.Hand.ok_of_named m (Cert.Words.named_of_pre _ _ _ _ _ _ _ _ _ _ _ _ _ _ _ _ _ _ _ (h 0)))

theorem routed_ideal (m : (ℓ : Loc Cert.KernelIdeal.nD Cert.KernelIdeal.τ Cert.KernelIdeal.sig) → Buf (Elt Ideal) ℓ) (h : Cert.Pre_KernelIdeal_routed m)
    (c : Dev Cert.KernelIdeal.nD) :
    Cert.Words.Routed (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) :=
  Cert.Words.routed_of_pre _ _ _ _ _ _ _ _ _ _ _ _ _ _ _ _ _ _ _ (h c)

theorem frame_ideal_routed : Cert.quiescent_KernelIdeal_pre_routed := fun m g h =>
  Cert.KernelIdeal.Gen.frame m g (Cert.KernelIdeal.Hand.ok_of_named m (routed_ideal m h 0).named)

/-- The reference terminates with its arguments unchanged. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_routed : Cert.quiescent_ReferenceIdeal_pre_routed := fun m g _ => frame_reference m g trivial

/-- Equal arguments have equal results. -/
theorem result_congr {a1 b1 : FVec Ideal Cert.KernelIdeal.S392x256 .f32} {a2 b2 : FVec Ideal Cert.KernelIdeal.S392x256 .f32} {a3 b3 : FVec Ideal Cert.KernelIdeal.S8x256 .f32} {a4 b4 : FVec Ideal Cert.KernelIdeal.S392x16 .f32} {a6 b6 : FVec Ideal Cert.KernelIdeal.S8x16 .f32} {a7 b7 : FVec Ideal Cert.KernelIdeal.S16x256x1024 .f32} {a8 b8 : FVec Ideal Cert.KernelIdeal.S16x1x1024 .f32} {a9 b9 : FVec Ideal Cert.KernelIdeal.S16x1024x256 .f32} {a10 b10 : FVec Ideal Cert.KernelIdeal.S16x1x256 .f32} {a11 b11 : FVec Ideal Cert.KernelIdeal.S16x256x1024 .f32} {a12 b12 : FVec Ideal Cert.KernelIdeal.S16x1x1024 .f32} {a13 b13 : FVec Ideal Cert.KernelIdeal.S16x1024x256 .f32} {a14 b14 : FVec Ideal Cert.KernelIdeal.S16x1x256 .f32} {a15 b15 : FVec Ideal Cert.KernelIdeal.S1x512 .f32} {a16 b16 : FVec Ideal Cert.KernelIdeal.S1x1 .f32} {a17 b17 : FVec Ideal Cert.KernelIdeal.S1x512 .f32} {a18 b18 : FVec Ideal Cert.KernelIdeal.S1x1 .f32}
    (h1 : a1 = b1) (h2 : a2 = b2) (h3 : a3 = b3) (h4 : a4 = b4) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (x : Fin 392) (y : Fin 256) :
    Cert.Spec.result a1 a2 a3 a4 a6 a7 a8 a9 a10 a11 a12 a13 a14 a15 a16 a17 a18 x y = Cert.Spec.result b1 b2 b3 b4 b6 b7 b8 b9 b10 b11 b12 b13 b14 b15 b16 b17 b18 x y := by
  subst h1 h2 h3 h4 h6 h7 h8 h9 h10 h11 h12 h13 h14 h15 h16 h17 h18
  rfl

/-- The kernel's result array ends at the reference's value of the same arguments. -/
theorem algebraic : Cert.algebraic_KernelIdeal_ReferenceIdeal_pre_routed := by
  intro m g m' g' h same
  have hO : Cert.KernelIdeal.Gen.Ok m := Cert.KernelIdeal.Hand.ok_of_named m (routed_ideal m h 0).named
  refine ⟨fun c => Cert.KernelIdeal.Hand.outArr m hO c, ?_, ?_⟩
  · refine (θ_run Cert.KernelIdeal.defs _ _).mono (fun r hr c => ⟨?_, hr.1 c⟩)
      (θ_run_and (Cert.KernelIdeal.Gen.unchanged m g hO) (Cert.KernelIdeal.Gen.run_main m g hO))
    exact ((hr.2 c).1 18).trans (Cert.KernelIdeal.Hand.arr_out m hO c)
  · refine (θ_run Cert.ReferenceIdeal.defs _ _).mono (fun r hr c => ⟨?_, (hr c).2⟩) (Cert.ReferenceIdeal.Value.run (F := Ideal) m' g')
    refine (hr c).1.trans ((Cert.ReferenceIdeal.Read.val_main_v77_eq _).trans ?_)
    obtain rfl : c = 0 := Subsingleton.elim _ _
    have hr0 := routed_ideal m h 0
    obtain ⟨e0, e1, e2, e3, e4, e5, e6, e7, e8, e9, e10, e11, e12, e13, e14, e15, e16, e17, e18⟩ := same 0
    refine funext fun i => ?_
    obtain ⟨x, y, rfl⟩ : ∃ (x : Fin 392) (y : Fin 256), i = ix2 x y := ⟨i 0, i 1, funext fun a => match a with | ⟨0, _⟩ => rfl | ⟨1, _⟩ => rfl⟩
    refine (Cert.ReferenceIdeal.Hand.result_apply _ _ _ _ _ _ _ _ _ _ _ _ _ _ _ _ _ x y).trans ?_
    refine Eq.trans ?_ (Cert.KernelIdeal.Hand.out_value m hO 0 hr0.named hr0 x y).symm
    exact result_congr e1 e2 e3 e4 e6 e7 e8 e9 e10 e11 e12 e13 e14 e15 e16 e17 e18 x y

end Cert.Proof

end
-- ==== Proof.Top.lean ====
/- The two largest entries of a row of sixteen, the earlier of equal ones first. -/
module

public import Idealize.ShloMosaic.Lib.SortFacts
public import Idealize.ShloMosaic.Lib.Pointwise.Tactic
public import proofs.«01_k».proof.Proof.Spec

@[expose] public section

noncomputable section

namespace Cert.Top

open Idealize.ShloMosaic

variable {n : Nat}

/-- Entry `a` comes before entry `b`: it is larger, or equal and further left. -/
def Before (p : Fin n → EReal) (a b : Fin n) : Prop := p b < p a ∨ (p a = p b ∧ a < b)

/-- The test the sort makes. -/
def larger (p : Fin n → EReal) (a b : Fin n) : Bool := decide (p b < p a)

theorem Before.trans {p : Fin n → EReal} {a b c : Fin n} (h : Before p a b) (h' : Before p b c) : Before p a c := by
  rcases h with h | ⟨h, k⟩ <;> rcases h' with h' | ⟨h', k'⟩
  · exact .inl (h'.trans h)
  · exact .inl (h' ▸ h)
  · exact .inl (h ▸ h')
  · exact .inr ⟨h.trans h', k.trans k'⟩

/-- An entry left of a sorted list goes to its place in it. -/
theorem insert_sorted (p : Fin n → EReal) (a : Fin n) (l : List (Fin n)) (hl : l.Pairwise (Before p)) (ha : ∀ b ∈ l, a < b) :
    (insertBefore (larger p) a l).Pairwise (Before p) := by
  induction l with
  | nil => exact List.pairwise_singleton _ _
  | cons b l ih =>
    have hb := List.pairwise_cons.1 hl
    unfold insertBefore
    split
    · rename_i h
      have h : p a < p b := of_decide_eq_true h
      refine List.pairwise_cons.2 ⟨fun c hc => ?_, ih hb.2 fun c hc => ha c (List.mem_cons_of_mem _ hc)⟩
      rcases List.mem_cons.1 ((perm_insertBefore (larger p) a l).mem_iff.1 hc) with rfl | hc
      · exact .inl h
      · exact hb.1 c hc
    · rename_i h
      have h : ¬ p a < p b := fun h' => h (decide_eq_true h')
      have hab : Before p a b := by
        rcases lt_or_eq_of_le (not_lt.1 h) with h | h
        · exact .inl h
        · exact .inr ⟨h.symm, ha b (List.mem_cons_self ..)⟩
      refine List.pairwise_cons.2 ⟨fun c hc => ?_, hl⟩
      rcases List.mem_cons.1 hc with rfl | hc
      · exact hab
      · exact hab.trans (hb.1 c hc)

theorem stable_sorted (p : Fin n → EReal) (l : List (Fin n)) (hl : l.Pairwise (· < ·)) :
    (stableSort (larger p) l).Pairwise (Before p) := by
  induction l with
  | nil => exact List.Pairwise.nil
  | cons a l ih =>
    have ha := List.pairwise_cons.1 hl
    exact insert_sorted p a _ (ih ha.2) fun b hb => ha.1 b ((perm_stableSort (larger p) l).mem_iff.1 hb)

/-- The entry at place `k` of the sorted row. -/
def place (p : Fin n → EReal) (k : Fin n) : Fin n := sortedFrom (larger p) k

theorem place_before (p : Fin n → EReal) (i j : Fin n) (h : i < j) : Before p (place p i) (place p j) := by
  have hs := List.pairwise_iff_get.1 (stable_sorted p (List.finRange n) (List.pairwise_lt_finRange n))
  exact hs (i.cast (length_sortPositions n (larger p)).symm) (j.cast (length_sortPositions n (larger p)).symm) h

theorem place_inj (p : Fin n → EReal) (i j : Fin n) (h : place p i = place p j) : i = j := sortedFrom_injective (larger p) h

theorem place_surj (p : Fin n → EReal) (e : Fin n) : ∃ k, place p k = e := sortedFrom_surjective (larger p) e

/-- The largest entry and the second largest. -/
def fst (p : Fin 16 → EReal) : Fin 16 := place p 0
def snd (p : Fin 16 → EReal) : Fin 16 := place p 1

theorem fst_before (p : Fin 16 → EReal) (e : Fin 16) (h : e ≠ fst p) : Before p (fst p) e := by
  obtain ⟨k, rfl⟩ := place_surj p e
  refine place_before p 0 k (Fin.pos_iff_ne_zero.2 fun hk => h ?_)
  rw [hk]; rfl

theorem snd_before (p : Fin 16 → EReal) (e : Fin 16) (h : e ≠ fst p) (h' : e ≠ snd p) : Before p (snd p) e := by
  obtain ⟨k, rfl⟩ := place_surj p e
  refine place_before p 1 k ?_
  have h0 : k ≠ 0 := fun hk => h (by rw [hk]; rfl)
  have h1 : k ≠ 1 := fun hk => h' (by rw [hk]; rfl)
  omega

theorem fst_ne_snd (p : Fin 16 → EReal) : fst p ≠ snd p := fun h => absurd (place_inj p 0 1 h) (by decide)

theorem le_fst (p : Fin 16 → EReal) (e : Fin 16) : p e ≤ p (fst p) := by
  by_cases h : e = fst p
  · rw [h]
  · rcases fst_before p e h with h | h
    · exact h.le
    · exact h.1.ge

theorem le_snd (p : Fin 16 → EReal) (e : Fin 16) (h : e ≠ fst p) : p e ≤ p (snd p) := by
  by_cases h' : e = snd p
  · rw [h']
  · rcases snd_before p e h h' with h | h
    · exact h.le
    · exact h.1.ge

/-- Of the columns that hold a largest value the leftmost. -/
theorem fst_least (p : Fin 16 → EReal) (e : Fin 16) (h : p (fst p) ≤ p e) : fst p ≤ e := by
  by_cases h' : e = fst p
  · rw [h']
  · rcases fst_before p e h' with h'' | h''
    · exact absurd h'' (not_lt.2 h)
    · exact h''.2.le

theorem snd_least (p : Fin 16 → EReal) (e : Fin 16) (hne : e ≠ fst p) (h : p (snd p) ≤ p e) : snd p ≤ e := by
  by_cases h' : e = snd p
  · rw [h']
  · rcases snd_before p e hne h' with h'' | h''
    · exact absurd h'' (not_lt.2 h)
    · exact h''.2.le

/-- The row with its largest entry put to `L`. -/
def drop (L : EReal) (p : Fin 16 → EReal) (e : Fin 16) : EReal := if e = fst p then L else p e

theorem fold_max_eq (f : Fin 16 → EReal) (a : Fin 16) (h : ∀ e, f e ≤ f a) : Finset.univ.fold max (⊥ : EReal) f = f a :=
  le_antisymm (Finset.fold_max_le _ |>.2 ⟨bot_le, fun e _ => h e⟩) ((Finset.le_fold_max _).2 (.inr ⟨a, Finset.mem_univ _, le_rfl⟩))

theorem max_fst (p : Fin 16 → EReal) : Finset.univ.fold max (⊥ : EReal) p = p (fst p) := fold_max_eq p _ (le_fst p)

theorem drop_le (L : EReal) (p : Fin 16 → EReal) (hL : ∀ e, L < p e) (e : Fin 16) : drop L p e ≤ drop L p (snd p) := by
  unfold drop
  rw [if_neg (fst_ne_snd p).symm]
  split
  · exact (hL _).le
  · rename_i h; exact le_snd p e h

theorem max_drop (L : EReal) (p : Fin 16 → EReal) (hL : ∀ e, L < p e) : Finset.univ.fold max (⊥ : EReal) (drop L p) = p (snd p) := by
  rw [fold_max_eq _ _ (drop_le L p hL)]; exact if_neg (fst_ne_snd p).symm

theorem drop_least (L : EReal) (p : Fin 16 → EReal) (hL : ∀ e, L < p e) (e : Fin 16) (h : p (snd p) ≤ drop L p e) : snd p ≤ e := by
  by_cases he : e = fst p
  · unfold drop at h; rw [if_pos he] at h; exact absurd (hL _) (not_lt.2 h)
  · unfold drop at h; rw [if_neg he] at h; exact snd_least p e he h

/-- The least of the columns chosen, the others counting as sixteen. -/
def minCol (Q : Fin 16 → BitVec 1) : BitVec 32 :=
  Finset.univ.fold (IntOp.minsi (w := 32)) 2147483647#32 fun e : Fin 16 => Scalar.select (Q e) (BitVec.ofNat 32 e.val) 16#32

theorem toNat_fold (f : Fin 16 → BitVec 32) (hf : ∀ e, (f e).toNat < 2 ^ 31) (s : Finset (Fin 16)) :
    (s.fold (IntOp.minsi (w := 32)) 2147483647#32 f).toNat = s.fold min 2147483647 fun e => (f e).toNat := by
  induction s using Finset.induction_on with
  | empty => rfl
  | insert a s ha ih =>
    rw [Finset.fold_insert ha, Finset.fold_insert ha, ← ih]
    have h1 := hf a
    have h2 : (s.fold (IntOp.minsi (w := 32)) 2147483647#32 f).toNat < 2 ^ 31 := by
      rw [ih]
      refine lt_of_le_of_lt (Finset.fold_min_le _ |>.2 (.inl le_rfl)) (by norm_num)
    generalize s.fold (IntOp.minsi (w := 32)) 2147483647#32 f = y at h2
    generalize f a = x at h1
    simp only [IntOp.minsi]
    have hx : x.toInt = x.toNat := BitVec.toInt_eq_toNat_of_lt (by omega)
    have hy : y.toInt = y.toNat := BitVec.toInt_eq_toNat_of_lt (by omega)
    simp only [BitVec.sle, BitVec.slt, hx, hy]
    split <;> rename_i h <;> simp at h <;> omega

theorem minCol_eq (Q : Fin 16 → BitVec 1) (a : Fin 16) (ha : Q a = 1#1) (h : ∀ e, Q e = 1#1 → a ≤ e) : minCol Q = BitVec.ofNat 32 a.val := by
  apply BitVec.eq_of_toNat_eq
  unfold minCol
  have hcol : ∀ e : Fin 16, (BitVec.ofNat 32 e.val).toNat = e.val := by decide
  have hs : ∀ e, (Scalar.select (Q e) (BitVec.ofNat 32 e.val) 16#32).toNat = if Q e = 1#1 then e.val else 16 := by
    intro e
    rcases (show Q e = 0#1 ∨ Q e = 1#1 by generalize Q e = q; revert q; decide) with hq | hq <;> rw [hq]
    · rfl
    · exact hcol e
  rw [toNat_fold _ (fun e => by rw [hs]; split <;> omega), hcol]
  simp only [hs]
  apply le_antisymm
  · refine (Finset.fold_min_le _).2 (.inr ⟨a, Finset.mem_univ _, ?_⟩)
    rw [if_pos ha]
  · refine (Finset.le_fold_min _).2 ⟨by omega, fun e _ => ?_⟩
    split
    · rename_i hq; exact h e hq
    · omega

theorem minCol_fst (p : Fin 16 → EReal) : minCol (fun e => BitVec.ofBool (decide (p (fst p) ≤ p e))) = BitVec.ofNat 32 (fst p).val := by
  refine minCol_eq _ _ (by simp) fun e he => fst_least p e ?_
  by_contra h; simp [h] at he

theorem minCol_drop (L : EReal) (p : Fin 16 → EReal) (hL : ∀ e, L < p e) :
    minCol (fun e => BitVec.ofBool (decide (p (snd p) ≤ drop L p e))) = BitVec.ofNat 32 (snd p).val := by
  refine minCol_eq _ _ ?_ fun e he => drop_least L p hL e ?_
  · have : p (snd p) ≤ drop L p (snd p) := by unfold drop; rw [if_neg (fst_ne_snd p).symm]
    simp [this]
  · by_contra h; simp [h] at he

end Cert.Top
-- ==== Proof.Gates.lean ====
/- The router's mathematics: the softmax of a row of logits, the gates of its two largest entries, and the load-balancing loss. -/
module

public import proofs.«01_k».proof.Proof.Top
public import proofs.«01_k».proof.Proof.Routing

@[expose] public section

noncomputable section

namespace Cert.Gates

open Idealize.ShloMosaic Cert.Top

/-- The largest logit of a row. -/
def rowMax (l : Fin 16 → EReal) : EReal := Finset.univ.fold max ⊥ l

/-- The softmax of a row. -/
def prob (l : Fin 16 → EReal) (e : Fin 16) : EReal :=
  Ideal.div (Ideal.exp (l e - rowMax l)) (∑ x, Ideal.exp (l x - rowMax l))

/-- One at an entry, zero elsewhere. -/
def hot (a e : Fin 16) : EReal := if e = a then 1 else 0

/-- How often an entry is among the row's two largest: once or never. -/
def chosen (p : Fin 16 → EReal) (e : Fin 16) : EReal := hot (fst p) e + hot (snd p) e

/-- The gate of an entry: its share of the two largest's sum if it is one of them, else zero. -/
def gate (p : Fin 16 → EReal) (e : Fin 16) : EReal :=
  hot (fst p) e * Ideal.div (p (fst p)) (p (fst p) + p (snd p)) + hot (snd p) e * Ideal.div (p (snd p)) (p (fst p) + p (snd p))

/-- The loss's weight. -/
def weight : EReal := Ideal.ofBits .f32 0x3E23D70A#32

/-- The load-balancing loss of a table of probabilities. -/
def balance {n : Nat} (size : EReal) (P : Fin n → Fin 16 → EReal) : EReal :=
  weight * ∑ e, Ideal.div (∑ m, P m e) size * Ideal.div (∑ m, chosen (P m) e) size

/-- The softmax of the rows of a product. -/
def table {n : Nat} (a : Fin n → Fin 256 → EReal) (w : Fin 256 → Fin 16 → EReal) (m : Fin n) : Fin 16 → EReal :=
  prob fun e => ∑ k, a m k * w k e

/-- The number of tokens of an image, of both images, and the number of images, as the programs spell them. -/
def tokens : EReal := Ideal.ofBits .f32 0x43440000#32
def rows : EReal := Ideal.ofBits .f32 0x43C40000#32
def images : EReal := Ideal.ofBits .f32 0x40000000#32

/-- The mean token of each image. -/
def pool (t : Fin 392 → Fin 256 → EReal) (b : Fin 2) (k : Fin 256) : EReal :=
  Ideal.div (∑ x : Fin 196, t ⟨b.val * 196 + x.val, by omega⟩ k) tokens

/-- The loss: half the sum of the two tables' losses. -/
def loss (t : Fin 392 → Fin 256 → EReal) (ws wc : Fin 256 → Fin 16 → EReal) : EReal :=
  Ideal.div (balance images (table (pool t) wc) + balance rows (table t ws)) images

/-- A two-axis array by its two coordinates. -/
def entries {n m : Nat} (x : (⟨2, ![n, m]⟩ : Shape).Idx → EReal) (i : Fin n) (j : Fin m) : EReal := x (ix2 i j)

/-- What the kernel writes over the largest entry. -/
abbrev low : EReal := Cert.KernelIdeal.Hand.low

theorem low_neg : low < 0 := by
  have h := Cert.KernelIdeal.Hand.low_lt 0#32
  simpa using h

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- Neither infinity. -/
def Fin' (x : EReal) : Prop := x ≠ ⊥ ∧ x ≠ ⊤

theorem exp_nonneg (x : EReal) : 0 ≤ Ideal.exp x := by
  induction x using EReal.rec with
  | bot => exact le_rfl
  | top => exact le_top
  | coe x => exact EReal.coe_nonneg.2 (Real.exp_pos x).le

theorem prob_nonneg (l : Fin 16 → EReal) (h : ∀ e, Fin' (l e)) (e : Fin 16) : 0 ≤ prob l e := by
  have hm : rowMax l = l (fst l) := max_fst l
  have h1 : Ideal.exp (l (fst l) - rowMax l) = 1 := by
    rw [hm]
    obtain ⟨hb, ht⟩ := h (fst l)
    lift l (fst l) to ℝ using ⟨ht, hb⟩ with r
    rw [← EReal.coe_sub, sub_self]
    show ((Real.exp 0 : ℝ) : EReal) = 1
    simp
  have hs : (1 : EReal) ≤ ∑ x, Ideal.exp (l x - rowMax l) := by
    rw [← h1]
    exact Finset.single_le_sum (f := fun x => Ideal.exp (l x - rowMax l)) (fun x _ => exp_nonneg _) (Finset.mem_univ (fst l))
  have h0 : (0 : EReal) < ∑ x, Ideal.exp (l x - rowMax l) := lt_of_lt_of_le zero_lt_one hs
  unfold prob Ideal.div
  rw [if_neg h0.ne']
  exact mul_nonneg (exp_nonneg _) (EReal.inv_nonneg_of_nonneg h0.le)

theorem low_lt_prob (l : Fin 16 → EReal) (h : ∀ e, Fin' (l e)) (e : Fin 16) : low < prob l e :=
  lt_of_lt_of_le low_neg (prob_nonneg l h e)

theorem fin_add (x y : EReal) (hx : Fin' x) (hy : Fin' y) : Fin' (x + y) := by
  obtain ⟨hx, hx'⟩ := hx
  obtain ⟨hy, hy'⟩ := hy
  lift x to ℝ using ⟨hx', hx⟩
  lift y to ℝ using ⟨hy', hy⟩
  rw [← EReal.coe_add]
  exact ⟨EReal.coe_ne_bot _, EReal.coe_ne_top _⟩

theorem fin_mul (x y : EReal) (hx : Fin' x) (hy : Fin' y) : Fin' (x * y) := by
  obtain ⟨hx, hx'⟩ := hx
  obtain ⟨hy, hy'⟩ := hy
  lift x to ℝ using ⟨hx', hx⟩
  lift y to ℝ using ⟨hy', hy⟩
  rw [← EReal.coe_mul]
  exact ⟨EReal.coe_ne_bot _, EReal.coe_ne_top _⟩

theorem fin_sum {n : Nat} (f : Fin n → EReal) (h : ∀ k, Fin' (f k)) : Fin' (∑ k, f k) := by
  classical
  refine Finset.sum_induction f Fin' (fun a b => fin_add a b) ⟨EReal.zero_ne_bot, EReal.zero_ne_top⟩ fun k _ => h k

/-- A logit of finite factors is finite. -/
theorem fin_dot {n : Nat} (f g : Fin n → EReal) (hf : ∀ k, Fin' (f k)) (hg : ∀ k, Fin' (g k)) : Fin' (∑ k, f k * g k) :=
  fin_sum _ fun k => fin_mul _ _ (hf k) (hg k)

theorem tokens_eq : tokens = ((196 : ℝ) : EReal) := by
  unfold tokens
  simp [Ideal.ofBits, Ideal.ieee]
  exact_mod_cast (by norm_num : (12845056 : ℝ) * (2 ^ 16)⁻¹ = 196)

theorem fin_mean (x : EReal) (hx : Fin' x) : Fin' (Ideal.div x tokens) := by
  rw [tokens_eq]
  unfold Ideal.div
  rw [if_neg (by norm_num), ← EReal.coe_inv]
  exact fin_mul _ _ hx ⟨EReal.coe_ne_bot _, EReal.coe_ne_top _⟩

theorem fin_pool (t : Fin 392 → Fin 256 → EReal) (h : ∀ n k, Fin' (t n k)) (b : Fin 2) (k : Fin 256) : Fin' (pool t b k) :=
  fin_mean _ (fin_sum _ fun x => h _ k)

theorem low_lt_table {n : Nat} (a : Fin n → Fin 256 → EReal) (w : Fin 256 → Fin 16 → EReal) (ha : ∀ m k, Fin' (a m k))
    (hw : ∀ k e, Fin' (w k e)) (m : Fin n) (e : Fin 16) : low < table a w m e :=
  low_lt_prob _ (fun e => fin_dot _ _ (ha m) fun k => hw k e) e

end Cert.Gates
-- ==== Proof.Sorted.lean ====
/- The reference's choice of the two largest of each row by a sort, and its sums over the two places. -/
module

public import Idealize.ShloMosaic.Lib.Pointwise.Tactic
public import proofs.«01_k».proof.Proof.Gates

@[expose] public section

noncomputable section

namespace Cert.Sorted

open Idealize.ShloMosaic

variable {N : Nat}

/-- A row of a table. -/
def row (x : (⟨2, ![N, 16]⟩ : Shape).Idx → EReal) (n : Fin N) (e : Fin 16) : EReal := x (ix2 n e)

theorem along_ix2 (n : Fin N) (k k' : Fin 16) :
    Shape.Idx.along (s := ⟨2, ![N, 16]⟩) (ix2 n k) 1 k' = ix2 n k' := by
  funext a
  match a with
  | ⟨0, _⟩ => rfl
  | ⟨1, _⟩ => rfl

theorem sliced {α : Type} (f : (⟨2, ![N, 16]⟩ : Shape).Idx → α) (h) (n : Fin N) (k : Fin 2) :
    extractStridedSlice (s := ⟨2, ![N, 16]⟩) ⟨2, ![N, 2]⟩ (fun _ => 0) f h (ix2 n k) = f (ix2 n (k.castLE (by decide))) := by
  refine congrArg f ?_
  funext a
  match a with
  | ⟨0, _⟩ => exact Fin.ext (Nat.zero_add _)
  | ⟨1, _⟩ => exact Fin.ext (Nat.zero_add _)

/-- The sort's order of a row. -/
theorem order (x : (⟨2, ![N, 16]⟩ : Shape).Idx → EReal) (n : Fin N) (k : Fin 16) :
    sortedFrom (fun a b => (FloatOps.cmpfTotal (F := Ideal) (φ := .f32) .gt (x (Shape.Idx.along (s := ⟨2, ![N, 16]⟩) (ix2 n k) 1 a))
        (x (Shape.Idx.along (s := ⟨2, ![N, 16]⟩) (ix2 n k) 1 b)) == 1#1)) k = Top.place (row x n) k := by
  have bit : ∀ u v u' v' : EReal, u = u' → v = v' → (BitVec.ofBool (decide (v < u)) == 1#1) = decide (v' < u') := by
    rintro u v _ _ rfl rfl
    cases decide (v < u) <;> rfl
  unfold Top.place
  congr 1
  funext a b
  exact bit _ _ _ _ (congrArg x (along_ix2 n k a)) (congrArg x (along_ix2 n k b))

theorem pair_sorted (x : (⟨2, ![N, 16]⟩ : Shape).Idx → EReal) (y : (⟨2, ![N, 16]⟩ : Shape).Idx → BitVec 32) (n : Fin N) (k : Fin 16) :
    (Host.sort2 ⟨2, ![N, 16]⟩ 1 (fun l r => FloatOps.cmpfTotal (F := Ideal) (φ := .f32) .gt l.1 r.1) x y).1 (ix2 n k)
        = x (ix2 n (Top.place (row x n) k))
    ∧ (Host.sort2 ⟨2, ![N, 16]⟩ 1 (fun l r => FloatOps.cmpfTotal (F := Ideal) (φ := .f32) .gt l.1 r.1) x y).2 (ix2 n k)
        = y (ix2 n (Top.place (row x n) k)) := by
  unfold Host.sort2
  rw [dif_pos (show 1 < (⟨2, ![N, 16]⟩ : Shape).rank from Nat.one_lt_two)]
  have e : ∀ a : Fin 16, a = Top.place (row x n) k →
      Shape.Idx.along (s := ⟨2, ![N, 16]⟩) (ix2 n k) 1 a = ix2 n (Top.place (row x n) k) := by
    rintro a rfl
    exact along_ix2 n _ _
  exact ⟨congrArg x (e _ (order x n k)), congrArg y (e _ (order x n k))⟩

theorem values (x : FVec Ideal ⟨2, ![N, 16]⟩ .f32) (h) (n : Fin N) (k : Fin 2) :
    (Host.topK (s := ⟨2, ![N, 16]⟩) ⟨2, ![N, 2]⟩ 1 (FloatOps.cmpfTotal .gt) x h).1 (ix2 n k)
      = row x n (Top.place (row x n) (k.castLE (by decide))) := by
  unfold Host.topK
  dsimp only
  exact (sliced _ h n k).trans (pair_sorted x _ n _).1

theorem indices (x : FVec Ideal ⟨2, ![N, 16]⟩ .f32) (h) (n : Fin N) (k : Fin 2) :
    (Host.topK (s := ⟨2, ![N, 16]⟩) ⟨2, ![N, 2]⟩ 1 (FloatOps.cmpfTotal .gt) x h).2 (ix2 n k)
      = BitVec.ofNat 32 (Top.place (row x n) (k.castLE (by decide))).val := by
  unfold Host.topK
  dsimp only
  refine (sliced _ h n k).trans ((pair_sorted x _ n _).2.trans ?_)
  rw [dif_pos (show 1 < (⟨2, ![N, 16]⟩ : Shape).rank from Nat.one_lt_two)]
  rfl

/-- A sum over the first two axes of three. -/
theorem sum_pairs (h : (⟨3, ![N, 2, 16]⟩ : Shape).ReducesTo [0, 1] ⟨1, ![16]⟩) (v : (⟨3, ![N, 2, 16]⟩ : Shape).Idx → EReal) (e : Fin 16) :
    Ideal.hostReduceAdd h v 0 (ix1 e) = ∑ n, ∑ k, v (ix3 n k e) := by
  unfold Ideal.hostReduceAdd
  rw [zero_add, ← Fintype.sum_prod_type']
  symm
  refine Finset.sum_bij (fun p _ => ix3 p.1 p.2 e) ?_ ?_ ?_ fun _ _ => rfl
  · intro p _
    simp only [Finset.mem_filter, Finset.mem_univ, true_and]
    funext b
    match b with
    | ⟨0, _⟩ => exact Fin.ext rfl
  · intro p _ q _ hpq
    exact Prod.ext (congrFun hpq 0) (congrFun hpq 1)
  · intro i hi
    simp only [Finset.mem_filter, Finset.mem_univ, true_and] at hi
    have h2 : i 2 = e := Fin.ext (congrArg Fin.val (congrFun hi 0))
    refine ⟨(i 0, i 1), Finset.mem_univ _, ?_⟩
    rw [← h2]
    exact (eq_ix3 i).symm

end Cert.Sorted
-- ==== Proof.RouterRef.lean ====
/- The second reference's results: the two tables of gates and the loss. -/
module

public import proofs.«01_k».proof.Proof.Gen.Reference2Ideal.Read
public import proofs.«01_k».proof.Proof.Sorted

@[expose] public section

set_option maxRecDepth 16384

noncomputable section

namespace Cert.Reference2Ideal.Hand

open Cert.Reference2Ideal Cert.Reference2Ideal.Gen Cert.Reference2Ideal.Read
open Idealize.ShloMosaic Cert.Gates Cert.Top

variable (t : Vec Ideal S392x256 .f32) (w v : Vec Ideal S256x16 .f32)

theorem one_hot (a e : Fin 16) :
    (FloatOps.uitofp FTy.f32 (IntOp.cmpi CmpIPredicate.eq (BitVec.ofNat 32 a.val) (BitVec.ofNat 32 e.val)) : Ideal .f32) = hot e a := by
  rw [Cert.KernelIdeal.Hand.cmp_col]
  unfold hot
  by_cases h : a = e <;> simp [h] <;> show (((_ : Nat) : ℝ) : EReal) = _ <;> simp

theorem hot_comm (a e : Fin 16) : hot a e = hot e a := by
  unfold hot
  by_cases h : a = e
  · rw [h]
  · rw [if_neg h, if_neg (Ne.symm h)]

/-- The gate and the choice, from the places of the sort. -/
theorem gate_places (p : Fin 16 → EReal) (e : Fin 16) :
    ∑ k : Fin 2, hot e (place p (k.castLE (by decide)))
        * Ideal.div (p (place p (k.castLE (by decide)))) (∑ k : Fin 2, p (place p (k.castLE (by decide)))) = gate p e := by
  rw [Fin.sum_univ_two, Fin.sum_univ_two, hot_comm, hot_comm e]
  rfl

theorem chosen_places (p : Fin 16 → EReal) (e : Fin 16) : ∑ k : Fin 2, hot e (place p (k.castLE (by decide))) = chosen p e := by
  rw [Fin.sum_univ_two, hot_comm, hot_comm e]
  rfl

theorem probs_apply (n : Fin 392) (e : Fin 16) :
    val_main_v15 (F := Ideal) t w (ix2 n e) = table (entries t) (entries w) n e := by
  pointwise [val_main_v15, val_main_v14, val_main_v13, val_main_v12, val_main_v11, val_main_v10, val_main_v9, val_main_v8, val_main_v7,
    val_main_v6, val_main_v5, val_main_v4, val_main_cst_1, val_main_cst_2, val_main_cst_3]
  rw [neg_inf, max_eq_right bot_le]
  rfl

theorem pooled_apply (b : Fin 2) (k : Fin 256) : val_main_v3 (F := Ideal) t (ix2 b k) = pool (entries t) b k := by
  pointwise [val_main_v3, val_main_v2, val_main_v1, val_main_v0, val_main_cst, val_main_cst_0]
  rfl

theorem chan_probs_apply (b : Fin 2) (e : Fin 16) :
    val_main_v45 (F := Ideal) t w (ix2 b e) = table (pool (entries t)) (entries w) b e := by
  pointwise [val_main_v45, val_main_v44, val_main_v43, val_main_v42, val_main_v41, val_main_v40, val_main_v39, val_main_v38, val_main_v37,
    val_main_v36, val_main_v35, val_main_v34, val_main_cst_12, val_main_cst_13, val_main_cst_14]
  simp only [pooled_apply]
  rw [neg_inf, max_eq_right bot_le]
  rfl

theorem row_probs (n : Fin 392) : Sorted.row (val_main_v15 (F := Ideal) t w) n = table (entries t) (entries w) n :=
  funext (probs_apply t w n)

theorem row_chan (b : Fin 2) : Sorted.row (val_main_v45 (F := Ideal) t w) b = table (pool (entries t)) (entries w) b :=
  funext (chan_probs_apply t w b)

theorem values_apply (n : Fin 392) (k : Fin 2) : val_main_values (F := Ideal) t w (ix2 n k)
    = table (entries t) (entries w) n (place (table (entries t) (entries w) n) (k.castLE (by decide))) := by
  rw [← row_probs]; exact Sorted.values _ _ n k

theorem indices_apply (n : Fin 392) (k : Fin 2) : val_main_indices (F := Ideal) t w (ix2 n k)
    = BitVec.ofNat 32 (place (table (entries t) (entries w) n) (k.castLE (by decide))).val := by
  rw [← row_probs]; exact Sorted.indices _ _ n k

theorem chan_values_apply (b : Fin 2) (k : Fin 2) : val_main_values_15 (F := Ideal) t w (ix2 b k)
    = table (pool (entries t)) (entries w) b (place (table (pool (entries t)) (entries w) b) (k.castLE (by decide))) := by
  rw [← row_chan]; exact Sorted.values _ _ b k

theorem chan_indices_apply (b : Fin 2) (k : Fin 2) : val_main_indices_16 (F := Ideal) t w (ix2 b k)
    = BitVec.ofNat 32 (place (table (pool (entries t)) (entries w) b) (k.castLE (by decide))).val := by
  rw [← row_chan]; exact Sorted.indices _ _ b k

theorem hot_apply (n : Fin 392) (k : Fin 2) (e : Fin 16) : val_main_v20 (F := Ideal) t w (ix3 n k e)
    = hot e (place (table (entries t) (entries w) n) (k.castLE (by decide))) := by
  pointwise [val_main_v20, val_main_call0_v4, val_main_call0_v3, val_main_call0_v2, val_main_call0_v1, val_main_call0_v0]
  rw [indices_apply, one_hot]

theorem chan_hot_apply (b : Fin 2) (k : Fin 2) (e : Fin 16) : val_main_v50 (F := Ideal) t w (ix3 b k e)
    = hot e (place (table (pool (entries t)) (entries w) b) (k.castLE (by decide))) := by
  pointwise [val_main_v50, val_main_call1_v4, val_main_call1_v3, val_main_call1_v2, val_main_call1_v1, val_main_call1_v0]
  rw [chan_indices_apply, one_hot]

theorem mask_apply (n : Fin 392) (e : Fin 16) :
    val_main_v24 (F := Ideal) t w (ix2 n e) = gate (table (entries t) (entries w) n) e := by
  pointwise [val_main_v24, val_main_v23, val_main_v22, val_main_v21, val_main_v19, val_main_v18, val_main_v17, val_main_v16,
    val_main_cst_4, val_main_cst_5]
  simp only [hot_apply, values_apply]
  exact gate_places _ e

theorem chan_mask_apply (b : Fin 2) (e : Fin 16) :
    val_main_v54 (F := Ideal) t w (ix2 b e) = gate (table (pool (entries t)) (entries w) b) e := by
  pointwise [val_main_v54, val_main_v53, val_main_v52, val_main_v51, val_main_v49, val_main_v48, val_main_v47, val_main_v46,
    val_main_cst_17, val_main_cst_18]
  simp only [chan_hot_apply, chan_values_apply]
  exact gate_places _ e

theorem count_apply (e : Fin 16) : val_main_v28 (F := Ideal) t w (ix1 e) = ∑ n, chosen (table (entries t) (entries w) n) e := by
  pointwise [val_main_v28, val_main_cst_8]
  rw [Sorted.sum_pairs]
  simp only [hot_apply, chosen_places]

theorem chan_count_apply (e : Fin 16) :
    val_main_v58 (F := Ideal) t w (ix1 e) = ∑ b, chosen (table (pool (entries t)) (entries w) b) e := by
  pointwise [val_main_v58, val_main_cst_21]
  rw [Sorted.sum_pairs]
  simp only [chan_hot_apply, chosen_places]

theorem balance_apply : val_main_v33 (F := Ideal) t w ix0 = balance rows (table (entries t) (entries w)) := by
  pointwise [val_main_v33, val_main_v32, val_main_v31, val_main_v30, val_main_v29, val_main_v27, val_main_v26, val_main_v25,
    val_main_cst_6, val_main_cst_7, val_main_cst_9, val_main_cst_10, val_main_cst_11]
  simp only [count_apply, probs_apply]
  rfl

theorem chan_balance_apply : val_main_v63 (F := Ideal) t w ix0 = balance images (table (pool (entries t)) (entries w)) := by
  pointwise [val_main_v63, val_main_v62, val_main_v61, val_main_v60, val_main_v59, val_main_v57, val_main_v56, val_main_v55,
    val_main_cst_19, val_main_cst_20, val_main_cst_22, val_main_cst_23, val_main_cst_24]
  simp only [chan_count_apply, chan_probs_apply]
  rfl

/-- The channel gates of the two images, in the first two of eight rows. -/
theorem padded_apply (b : Fin 8) (e : Fin 16) : val_main_v64 (F := Ideal) t w (ix2 b e)
    = if h : b.val < 2 then gate (table (pool (entries t)) (entries w) ⟨b.val, h⟩) e else 0 := by
  pointwise [val_main_v64]
  split
  · exact chan_mask_apply t w _ e
  · show (((BitVec.toInt 0#32 : Int) : ℝ) : EReal) = 0
    simp

theorem loss_apply : val_main_v67 (F := Ideal) t w v (ix2 0 0) = loss (entries t) (entries w) (entries v) := by
  pointwise [val_main_v67, val_main_v66, val_main_v65, val_main_cst_25]
  rw [chan_balance_apply, balance_apply]
  rfl

end Cert.Reference2Ideal.Hand
-- ==== Proof.RouterKernel.lean ====
/- What the router's kernel computes: its two tables of gates and its loss. -/
module

public import proofs.«01_k».proof.Proof.Gen.Kernel2Ideal.Value
public import proofs.«01_k».proof.Proof.Gates
public import Idealize.ShloMosaic.Lib.Pointwise.Tactic

@[expose] public section

set_option maxRecDepth 16384

noncomputable section

namespace Cert.Kernel2Ideal.Hand

open Cert.Kernel2Ideal Cert.Kernel2Ideal.Gen
open Idealize.ShloMosaic Cert.Gates Cert.Top

/-- A column test as a bit. -/
def at? (a e : Fin 16) : BitVec 1 := if e = a then 1#1 else 0#1

theorem minCol_if (C : Fin 16 → Prop) [∀ x, Decidable (C x)] :
    Finset.univ.fold (IntOp.minsi (w := 32)) 2147483647#32 (fun x : Fin 16 => if C x then BitVec.ofNat 32 x.val else 16#32)
      = minCol fun e => BitVec.ofBool (decide (C e)) := by
  unfold minCol
  congr 1
  funext x
  by_cases h : C x <;> simp [h, Scalar.select]

theorem col_fst (p : Fin 16 → EReal) (e : Fin 16) [∀ x, Decidable (p (fst p) ≤ p x)] :
    IntOp.cmpi CmpIPredicate.eq (BitVec.ofNat 32 e.val)
        (Finset.univ.fold (IntOp.minsi (w := 32)) 2147483647#32 (fun x : Fin 16 => if p (fst p) ≤ p x then BitVec.ofNat 32 x.val else 16#32))
      = at? (fst p) e := by
  rw [minCol_if]
  refine (congrArg (IntOp.cmpi CmpIPredicate.eq (BitVec.ofNat 32 e.val)) ?_).trans (Cert.KernelIdeal.Hand.cmp_col (fst p) e)
  rw [← minCol_fst p]
  congr 1
  funext x
  congr

theorem col_snd (p : Fin 16 → EReal) (h : ∀ e, low < p e) (e : Fin 16) [∀ x, Decidable (p (snd p) ≤ drop low p x)] :
    IntOp.cmpi CmpIPredicate.eq (BitVec.ofNat 32 e.val)
        (Finset.univ.fold (IntOp.minsi (w := 32)) 2147483647#32
          (fun x : Fin 16 => if p (snd p) ≤ drop low p x then BitVec.ofNat 32 x.val else 16#32))
      = at? (snd p) e := by
  rw [minCol_if]
  refine (congrArg (IntOp.cmpi CmpIPredicate.eq (BitVec.ofNat 32 e.val)) ?_).trans (Cert.KernelIdeal.Hand.cmp_col (snd p) e)
  rw [← minCol_drop low p h]
  congr 1
  funext x
  congr

theorem select_at (a e : Fin 16) (x : EReal) : Scalar.select (at? a e) x 0 = hot a e * x := by
  unfold at? hot
  by_cases h : e = a <;> simp [h, Scalar.select]

theorem select_low (p : Fin 16 → EReal) (e : Fin 16) : Scalar.select (at? (fst p) e) low (p e) = drop low p e := by
  unfold at? drop
  by_cases h : e = fst p <;> simp [h, Scalar.select]

theorem num_at (a e : Fin 16) : Cert.KernelIdeal.Hand.bitVal (at? a e) = hot a e := by
  rw [Cert.KernelIdeal.Hand.bit_num]
  unfold at? hot
  by_cases h : e = a <;> simp [h]

theorem num_or (p : Fin 16 → EReal) (e : Fin 16) :
    Cert.KernelIdeal.Hand.bitVal (IntOp.ori (at? (fst p) e) (at? (snd p) e)) = chosen p e := by
  rw [Cert.KernelIdeal.Hand.bit_num]
  unfold at? chosen hot
  by_cases h : e = fst p
  · have h' : e ≠ snd p := h ▸ fst_ne_snd p
    rw [if_pos h, if_neg h', if_pos h, if_neg h']
    simp [IntOp.ori]
  · rw [if_neg h, if_neg h, zero_add]
    by_cases h' : e = snd p <;> simp [h', IntOp.ori]

/-- A sum over the eight rows that the first two alone enter. -/
theorem sum_valid (f v : Fin 8 → EReal) (hv : ∀ b, v b = if b.val < 2 then 1 else 0) :
    ∑ b, f b * v b = ∑ b : Fin 2, f (b.castLE (by decide)) := by
  simp only [hv]
  simp [Fin.sum_univ_succ]

section Spatial

variable (a : FVec Ideal S392x16 .f32) (b : FVec Ideal S392x1 .f32)

/-- The row's quotients. -/
def quot (n : Fin 392) (e : Fin 16) : EReal := Ideal.div (a (ix2 n e)) (b (ix2 n 0))

theorem best_apply (n : Fin 392) : k0_pay7 a b (ix2 n 0) = quot a b n (fst (quot a b n)) := by
  pointwise [k0_pay7, k0_pay6]
  rw [neg_inf]
  exact max_fst (quot a b n)

theorem bit_apply (n : Fin 392) (e : Fin 16) : k0_pay8 a b (ix2 n e) = at? (fst (quot a b n)) e := by
  have h := best_apply a b n
  pointwise [k0_pay7, k0_pay6] at h
  pointwise [k0_pay8, k0_pay7, k0_pay6]
  rw [h]
  exact col_fst (quot a b n) e

theorem masked_apply (n : Fin 392) (e : Fin 16) : k0_pay9 a b (ix2 n e) = drop low (quot a b n) e := by
  pointwise [k0_pay9, k0_pay6]
  rw [bit_apply]
  exact select_low (quot a b n) e

theorem next_apply (n : Fin 392) (h : ∀ e, low < quot a b n e) : k0_pay10 a b (ix2 n 0) = quot a b n (snd (quot a b n)) := by
  pointwise [k0_pay10]
  simp only [masked_apply]
  rw [neg_inf]
  exact max_drop low (quot a b n) h

theorem bit2_apply (n : Fin 392) (h : ∀ e, low < quot a b n e) (e : Fin 16) : k0_pay11 a b (ix2 n e) = at? (snd (quot a b n)) e := by
  pointwise [k0_pay11]
  simp only [masked_apply]
  rw [next_apply a b n h]
  exact col_snd (quot a b n) h e

theorem gates_apply (n : Fin 392) (h : ∀ e, low < quot a b n e) (e : Fin 16) : k0_pay12 a b (ix2 n e) = gate (quot a b n) e := by
  pointwise [k0_pay12]
  rw [bit_apply, bit2_apply a b n h, best_apply, next_apply a b n h, select_at, select_at]
  rfl

theorem chosen_apply (n : Fin 392) (h : ∀ e, low < quot a b n e) (e : Fin 16) : k0_pay16 a b (ix2 n e) = chosen (quot a b n) e := by
  pointwise [k0_pay16, k0_pay13, k0_pay14]
  rw [bit_apply, bit2_apply a b n h]
  exact congrArg₂ (· + ·) (num_at _ e) (num_at _ e)

theorem mean_apply (e : Fin 16) : k0_pay15 a b (ix1 e) = Ideal.div (∑ n, quot a b n e) rows := by
  pointwise [k0_pay15, k0_pay6]
  rfl

theorem balance_apply (h : ∀ n e, low < quot a b n e) :
    k0_pay17 (k0_pay15 a b) (k0_pay16 a b) = balance rows (quot a b) := by
  pointwise [k0_pay17]
  simp only [mean_apply, chosen_apply a b _ (h _)]
  rfl

end Spatial

theorem quot_apply (t : Vec Ideal S392x256 .f32) (w : Vec Ideal S256x16 .f32) (n : Fin 392) :
    quot (k0_pay4 (F := Ideal) t w) (k0_pay5 (F := Ideal) t w) n = table (entries t) (entries w) n := by
  funext e
  unfold quot
  pointwise [k0_pay4, k0_pay5]
  rw [neg_inf]
  rfl

section Channel

variable (c : FVec Ideal S8x16 .f32)

/-- The row's quotients. -/
def chan (b : Fin 8) (e : Fin 16) : EReal := Ideal.div (Ideal.exp (c (ix2 b e))) (∑ x : Fin 16, Ideal.exp (c (ix2 b x)))

theorem chan_apply (b : Fin 8) (e : Fin 16) : k0_pay32 c (ix2 b e) = chan c b e := by
  pointwise [k0_pay32]
  rfl

theorem chan_best_apply (b : Fin 8) : k0_pay33 c (ix2 b 0) = chan c b (fst (chan c b)) := by
  pointwise [k0_pay33]
  simp only [chan_apply]
  rw [neg_inf]
  exact max_fst (chan c b)

theorem chan_bit_apply (b : Fin 8) (e : Fin 16) : k0_pay34 c (ix2 b e) = at? (fst (chan c b)) e := by
  pointwise [k0_pay34]
  simp only [chan_apply]
  rw [chan_best_apply]
  exact col_fst (chan c b) e

theorem chan_masked_apply (b : Fin 8) (e : Fin 16) : k0_pay35 c (ix2 b e) = drop low (chan c b) e := by
  pointwise [k0_pay35]
  rw [chan_bit_apply, chan_apply]
  exact select_low (chan c b) e

theorem chan_next_apply (b : Fin 8) (h : ∀ e, low < chan c b e) : k0_pay36 c (ix2 b 0) = chan c b (snd (chan c b)) := by
  pointwise [k0_pay36]
  simp only [chan_masked_apply]
  rw [neg_inf]
  exact max_drop low (chan c b) h

theorem chan_bit2_apply (b : Fin 8) (h : ∀ e, low < chan c b e) (e : Fin 16) : k0_pay37 c (ix2 b e) = at? (snd (chan c b)) e := by
  pointwise [k0_pay37]
  simp only [chan_masked_apply]
  rw [chan_next_apply c b h]
  exact col_snd (chan c b) h e

theorem chan_chosen_apply (b : Fin 8) (h : ∀ e, low < chan c b e) (e : Fin 16) : k0_pay38 c (ix2 b e) = chosen (chan c b) e := by
  pointwise [k0_pay38]
  rw [chan_bit_apply, chan_bit2_apply c b h]
  exact num_or (chan c b) e

variable (v : FVec Ideal S8x1 .f32)

/-- The gates of a row used. -/
theorem chan_gates_apply (b : Fin 8) (hv : v (ix2 b 0) = 1) (h : ∀ e, low < chan c b e) (e : Fin 16) :
    k0_pay39 v c (ix2 b e) = gate (chan c b) e := by
  pointwise [k0_pay39]
  rw [chan_bit_apply, chan_bit2_apply c b h, chan_best_apply, chan_next_apply c b h, select_at, select_at, hv, mul_one]
  rfl

/-- The rows not used are zero. -/
theorem chan_unused_apply (b : Fin 8) (hv : v (ix2 b 0) = 0) (e : Fin 16) : k0_pay39 v c (ix2 b e) = 0 := by
  pointwise [k0_pay39]
  rw [hv, mul_zero]

theorem loss_apply (s : EReal) (hv : ∀ b, v (ix2 b 0) = if b.val < 2 then 1 else 0)
    (h : ∀ (b : Fin 2) e, low < chan c (b.castLE (by decide)) e) :
    k0_pay41 v s (k0_pay32 c) (k0_pay38 c) (k0_pay40 v) (ix2 0 0)
      = Ideal.div (balance images (fun b : Fin 2 => chan c (b.castLE (by decide))) + s) images := by
  pointwise [k0_pay41, k0_pay40]
  simp only [chan_apply]
  have e1 : ∀ x : Fin 16, ∑ b : Fin 8, chan c b x * v (ix2 b 0) = ∑ b : Fin 2, chan c (b.castLE (by decide)) x := fun x =>
    sum_valid (fun b => chan c b x) (fun b => v (ix2 b 0)) hv
  have e2 : ∀ x : Fin 16, ∑ b : Fin 8, k0_pay38 c (ix2 b x) * v (ix2 b 0) = ∑ b : Fin 2, chosen (chan c (b.castLE (by decide))) x := fun x =>
    (sum_valid (fun b => k0_pay38 c (ix2 b x)) (fun b => v (ix2 b 0)) hv).trans
      (Finset.sum_congr rfl fun b _ => chan_chosen_apply c _ (h b) x)
  simp only [e1, e2]
  rfl

end Channel

theorem valid_apply (v : Vec Ideal S8x1 .f32) (b : Fin 8) : k0_pay2 (F := Ideal) v (ix2 b 0) = v (ix2 b 0) := by
  pointwise [k0_pay2]

/-- The pooled tokens in the rows used. -/
theorem pooled_apply (t : Vec Ideal S392x256 .f32) (v : Vec Ideal S8x1 .f32) (b : Fin 2)
    (hv : v (ix2 (b.castLE (by decide)) 0) = 1) (k : Fin 256) :
    k0_pay3 (F := Ideal) t v (ix2 (b.castLE (by decide)) k) = pool (entries t) b k := by
  pointwise [k0_pay3]
  rw [valid_apply, hv, mul_one]
  have hrow : ∀ (i j : Fin 196 → Fin 392), (∀ x, (i x).val = (j x).val) → ∑ x, t (ix2 (i x) k) = ∑ x, t (ix2 (j x) k) := fun i j h =>
    Finset.sum_congr rfl fun x _ => congrArg (fun r => t (ix2 r k)) (Fin.ext (h x))
  unfold Gates.pool entries
  match b with
  | 0 => exact congrArg (Ideal.div · tokens) (hrow _ _ fun x => by simp)
  | 1 => exact congrArg (Ideal.div · tokens) (hrow _ _ fun x => by simp)

theorem chan_table (t : Vec Ideal S392x256 .f32) (v : Vec Ideal S8x1 .f32) (w : Vec Ideal S256x16 .f32) (b : Fin 2)
    (hv : v (ix2 (b.castLE (by decide)) 0) = 1) :
    chan (k0_pay31 (F := Ideal) (k0_pay3 (F := Ideal) t v) w) (b.castLE (by decide)) = table (pool (entries t)) (entries w) b := by
  funext e
  unfold chan
  pointwise [k0_pay31]
  simp only [pooled_apply t v b hv]
  rw [neg_inf]
  rfl

end Cert.Kernel2Ideal.Hand
-- ==== Proof.RouterFinal.lean ====
/- The router's three result arrays after the run. -/
module

public import proofs.«01_k».proof.Proof.RouterKernel

@[expose] public section

set_option maxRecDepth 16384

noncomputable section

namespace Cert.Kernel2Ideal.Hand

open Cert.Kernel2Ideal Cert.Kernel2Ideal.Gen Cert.Kernel2Ideal.Value
open Idealize.ShloMosaic Idealize.ShloMosaic.TcCoe Cert.Gates

variable (m : (ℓ : Loc nD τ sig) → Buf (Elt Ideal) ℓ) (c : Dev nD) (t : Fin cfg0.N)

theorem in0 : iblk m c 0 t = V m c main_arg0 := by
  refine funext fun (x : S392x256.Idx) => ?_
  change V m c main_arg0 (((cfg0.win 0).blk t).view.emb x) = V m c main_arg0 x
  refine congrArg (V m c main_arg0) (funext fun a => match a with | ⟨0, _⟩ => Fin.ext ?_ | ⟨1, _⟩ => Fin.ext ?_)
  · show 0 * 392 + 1 * (x 0).val = (x 0).val
    omega
  · show 0 * 256 + 1 * (x 1).val = (x 1).val
    omega

theorem in1 : iblk m c 1 t = V m c main_arg1 := by
  refine funext fun (x : S256x16.Idx) => ?_
  change V m c main_arg1 (((cfg0.win 1).blk t).view.emb x) = V m c main_arg1 x
  refine congrArg (V m c main_arg1) (funext fun a => match a with | ⟨0, _⟩ => Fin.ext ?_ | ⟨1, _⟩ => Fin.ext ?_)
  · show 0 * 256 + 1 * (x 0).val = (x 0).val
    omega
  · show 0 * 16 + 1 * (x 1).val = (x 1).val
    omega

theorem in2 : iblk m c 2 t = V m c main_arg2 := by
  refine funext fun (x : S256x16.Idx) => ?_
  change V m c main_arg2 (((cfg0.win 2).blk t).view.emb x) = V m c main_arg2 x
  refine congrArg (V m c main_arg2) (funext fun a => match a with | ⟨0, _⟩ => Fin.ext ?_ | ⟨1, _⟩ => Fin.ext ?_)
  · show 0 * 256 + 1 * (x 0).val = (x 0).val
    omega
  · show 0 * 16 + 1 * (x 1).val = (x 1).val
    omega

theorem in3 : iblk m c 3 t = V m c main_v4 := by
  refine funext fun (x : S8x1.Idx) => ?_
  change V m c main_v4 (((cfg0.win 3).blk t).view.emb x) = V m c main_v4 x
  refine congrArg (V m c main_v4) (funext fun a => match a with | ⟨0, _⟩ => Fin.ext ?_ | ⟨1, _⟩ => Fin.ext ?_)
  · show 0 * 8 + 1 * (x 0).val = (x 0).val
    omega
  · show 0 * 1 + 1 * (x 1).val = (x 1).val
    omega

/-- The host's column of ones and zeros. -/
def column : Vec Ideal S8x1 .f32 :=
  shapeCast S8x1 (uitofp (F := Ideal) .f32 (cmpi .slt (iotaInDim S8 32 0) (broadcastInDim S8 ![] bcast_S_S8 (constantI S_ 32 2#32))))
    shapeCasts_S8_S8x1

theorem column_eq : V m c main_v4 = column := by
  show StableHlo.after hostOps0 _ _ = _
  rw [hostOps0]
  after_results
  rfl

/-- It is one in the first two rows. -/
theorem column_apply (b : Fin 8) : column (ix2 b 0) = if b.val < 2 then 1 else 0 := by
  have hb : ∀ b : Fin 8, IntOp.cmpi CmpIPredicate.slt (BitVec.ofNat 32 b.val) 2#32 = if b.val < 2 then 1#1 else 0#1 := by decide
  pointwise [column]
  rw [hb]
  split
  · show (((BitVec.toNat 1#1 : Nat) : ℝ) : EReal) = 1
    simp
  · show (((BitVec.toNat 0#1 : Nat) : ℝ) : EReal) = 0
    simp

section Outs

variable (x0 : Vec Ideal S392x256 .f32) (x1 x2 : Vec Ideal S256x16 .f32)

/-- The three results, as functions of the arguments. -/
def gatesOut : Vec Ideal S392x16 .f32 := fun i => gate (table (entries x0) (entries x1) (i 0)) (i 1)

def chanOut : Vec Ideal S8x16 .f32 := fun i =>
  if h : (i 0).val < 2 then gate (table (Gates.pool (entries x0)) (entries x2) ⟨(i 0).val, h⟩) (i 1) else 0

def lossOut : Vec Ideal S1x1 .f32 := fun _ => loss (entries x0) (entries x1) (entries x2)

/-- Every entry is finite. -/
structure AllFinite : Prop where
  h0 : ∀ n k, Fin' (entries x0 n k)
  h1 : ∀ k e, Fin' (entries x1 k e)
  h2 : ∀ k e, Fin' (entries x2 k e)

theorem load0 (x : Vec Ideal S392x256 .f32) : View.ld x r0_0 = x := by
  refine funext fun (y : S392x256.Idx) => ?_
  change x (r0_0.idx y) = x y
  exact congrArg x (funext fun a => match a with
    | ⟨0, _⟩ => Fin.ext (by show 0 + 1 * (y 0).val = (y 0).val; omega)
    | ⟨1, _⟩ => Fin.ext (by show 0 + 1 * (y 1).val = (y 1).val; omega))

theorem load1 (x : Vec Ideal S8x1 .f32) : View.ld x r0_1 = x := by
  refine funext fun (y : S8x1.Idx) => ?_
  change x (r0_1.idx y) = x y
  exact congrArg x (funext fun a => match a with
    | ⟨0, _⟩ => Fin.ext (by show 0 + 1 * (y 0).val = (y 0).val; omega)
    | ⟨1, _⟩ => Fin.ext (by show 0 + 1 * (y 1).val = (y 1).val; omega))

theorem load3 (x : Vec Ideal S256x16 .f32) : View.ld x r0_3 = x := by
  refine funext fun (y : S256x16.Idx) => ?_
  change x (r0_3.idx y) = x y
  exact congrArg x (funext fun a => match a with
    | ⟨0, _⟩ => Fin.ext (by show 0 + 1 * (y 0).val = (y 0).val; omega)
    | ⟨1, _⟩ => Fin.ext (by show 0 + 1 * (y 1).val = (y 1).val; omega))

variable (h : AllFinite x0 x1 x2)
include h

theorem piece4 (n : Fin 392) (e : Fin 16) :
    k0_pay12 (k0_pay4 (F := Ideal) x0 x1) (k0_pay5 (F := Ideal) x0 x1) (ix2 n e) = gate (table (entries x0) (entries x1) n) e := by
  have hq := quot_apply x0 x1 n
  refine (gates_apply _ _ n (fun e => hq ▸ low_lt_table _ _ h.h0 h.h1 n e) e).trans ?_
  rw [hq]

variable (x3 : Vec Ideal S8x1 .f32) (h3 : ∀ b : Fin 8, x3 (ix2 b 0) = if b.val < 2 then 1 else 0)
include h3

theorem chan_low (b : Fin 2) (e : Fin 16) :
    low < chan (k0_pay31 (F := Ideal) (k0_pay3 (F := Ideal) x0 x3) x2) (b.castLE (by decide)) e := by
  rw [chan_table x0 x3 x2 b ((h3 _).trans (if_pos b.isLt))]
  exact low_lt_table _ _ (fin_pool _ h.h0) h.h2 b e

theorem piece7 (b : Fin 8) (e : Fin 16) :
    k0_pay39 (k0_pay2 (F := Ideal) x3) (k0_pay31 (F := Ideal) (k0_pay3 (F := Ideal) x0 x3) x2) (ix2 b e)
      = if hb : b.val < 2 then gate (table (Gates.pool (entries x0)) (entries x2) ⟨b.val, hb⟩) e else 0 := by
  by_cases hb : b.val < 2
  · have hv : x3 (ix2 b 0) = 1 := (h3 b).trans (if_pos hb)
    rw [dif_pos hb, ← chan_table x0 x3 x2 ⟨b.val, hb⟩ hv]
    exact chan_gates_apply (k0_pay31 (F := Ideal) (k0_pay3 (F := Ideal) x0 x3) x2) (k0_pay2 (F := Ideal) x3) b ((valid_apply x3 b).trans hv)
      (chan_low x0 x1 x2 h x3 h3 ⟨b.val, hb⟩) e
  · have hv : x3 (ix2 b 0) = 0 := (h3 b).trans (if_neg hb)
    rw [dif_neg hb]
    exact chan_unused_apply (k0_pay31 (F := Ideal) (k0_pay3 (F := Ideal) x0 x3) x2) (k0_pay2 (F := Ideal) x3) b ((valid_apply x3 b).trans hv) e

theorem piece8 :
    k0_pay41 (k0_pay2 (F := Ideal) x3)
        (k0_pay17 (k0_pay15 (k0_pay4 (F := Ideal) x0 x1) (k0_pay5 (F := Ideal) x0 x1)) (k0_pay16 (k0_pay4 (F := Ideal) x0 x1) (k0_pay5 (F := Ideal) x0 x1)))
        (k0_pay32 (k0_pay31 (F := Ideal) (k0_pay3 (F := Ideal) x0 x3) x2)) (k0_pay38 (k0_pay31 (F := Ideal) (k0_pay3 (F := Ideal) x0 x3) x2))
        (k0_pay40 (k0_pay2 (F := Ideal) x3)) (ix2 0 0)
      = loss (entries x0) (entries x1) (entries x2) := by
  refine (loss_apply (k0_pay31 (F := Ideal) (k0_pay3 (F := Ideal) x0 x3) x2) (k0_pay2 (F := Ideal) x3) _
    (fun b => (valid_apply x3 b).trans (h3 b)) (chan_low x0 x1 x2 h x3 h3)).trans ?_
  have hq : quot (k0_pay4 (F := Ideal) x0 x1) (k0_pay5 (F := Ideal) x0 x1) = table (entries x0) (entries x1) := funext (quot_apply x0 x1)
  have hc : (fun b : Fin 2 => chan (k0_pay31 (F := Ideal) (k0_pay3 (F := Ideal) x0 x3) x2) (b.castLE (by decide)))
      = table (Gates.pool (entries x0)) (entries x2) := funext fun b => chan_table x0 x3 x2 b ((h3 _).trans (if_pos b.isLt))
  rw [hc, balance_apply _ _ (fun n e => hq ▸ low_lt_table _ _ h.h0 h.h1 n e), hq]
  rfl

omit h3 in
theorem out4_eq : out0_4 x0 x1 x2 x3 = gatesOut x0 x1 := by
  funext y
  unfold_out out0_4
  refine View.canon_apply_of_pieces (gatesOut x0 x1) _ ?_ y (cover0_4 _ y)
  intro pc hpc
  rcases List.mem_cons.mp hpc with rfl | hpc
  · intro (x : S392x16.Idx)
    have hx : r0_4.idx x = x := funext fun a => match a with
      | ⟨0, _⟩ => Fin.ext (by show 0 + 1 * (x 0).val = (x 0).val; omega)
      | ⟨1, _⟩ => Fin.ext (by show 0 + 1 * (x 1).val = (x 1).val; omega)
    refine Eq.trans ?_ (congrArg (gatesOut x0 x1) hx).symm
    rw [eq_ix2 x]
    dsimp only
    rw [load0, load3]
    exact piece4 x0 x1 x2 h (x 0) (x 1)
  nomatch hpc

theorem out7_eq : out0_7 x0 x1 x2 x3 = chanOut x0 x2 := by
  funext y
  unfold_out out0_7
  refine View.canon_apply_of_pieces (chanOut x0 x2) _ ?_ y (cover0_7 _ y)
  intro pc hpc
  rcases List.mem_cons.mp hpc with rfl | hpc
  · intro (x : S8x16.Idx)
    have hx : r0_5.idx x = x := funext fun a => match a with
      | ⟨0, _⟩ => Fin.ext (by show 0 + 1 * (x 0).val = (x 0).val; omega)
      | ⟨1, _⟩ => Fin.ext (by show 0 + 1 * (x 1).val = (x 1).val; omega)
    refine Eq.trans ?_ (congrArg (chanOut x0 x2) hx).symm
    rw [eq_ix2 x]
    dsimp only
    rw [load0, load1, load3]
    exact piece7 x0 x1 x2 h x3 h3 (x 0) (x 1)
  nomatch hpc

theorem out8_eq : out0_8 x0 x1 x2 x3 = lossOut x0 x1 x2 := by
  funext y
  unfold_out out0_8
  refine View.canon_apply_of_pieces (lossOut x0 x1 x2) _ ?_ y (cover0_8 _ y)
  intro pc hpc
  rcases List.mem_cons.mp hpc with rfl | hpc
  · intro (x : S1x1.Idx)
    have hx : x = ix2 0 0 := funext fun a => match a with
      | ⟨0, _⟩ => Fin.ext (by show (x 0).val = 0; have : (x 0).val < 1 := (x 0).isLt; omega)
      | ⟨1, _⟩ => Fin.ext (by show (x 1).val = 0; have : (x 1).val < 1 := (x 1).isLt; omega)
    rw [hx]
    dsimp only
    rw [load0, load1, load3, load3]
    exact piece8 x0 x1 x2 h x3 h3
  nomatch hpc

end Outs

/-- The one grid point. -/
abbrev point : Fin cfg0.N := ⟨0, by show 0 < grid0.N; decide⟩

theorem emb4 (x : S392x16.Idx) : ((cfg0.win 4).blk t).view.emb x = x := by
  refine funext fun a => match a with | ⟨0, _⟩ => Fin.ext ?_ | ⟨1, _⟩ => Fin.ext ?_
  · show 0 * 392 + 1 * (x 0).val = (x 0).val
    omega
  · show 0 * 16 + 1 * (x 1).val = (x 1).val
    omega

theorem emb7 (x : S8x16.Idx) : ((cfg0.win 7).blk t).view.emb x = x := by
  refine funext fun a => match a with | ⟨0, _⟩ => Fin.ext ?_ | ⟨1, _⟩ => Fin.ext ?_
  · show 0 * 8 + 1 * (x 0).val = (x 0).val
    omega
  · show 0 * 16 + 1 * (x 1).val = (x 1).val
    omega

theorem emb8 (x : S1x1.Idx) : ((cfg0.win 8).blk t).view.emb x = x := by
  refine funext fun a => match a with | ⟨0, _⟩ => Fin.ext ?_ | ⟨1, _⟩ => Fin.ext ?_
  · show 0 * 1 + 1 * (x 0).val = (x 0).val
    omega
  · show 0 * 1 + 1 * (x 1).val = (x 1).val
    omega

variable (h : AllFinite (V m c main_arg0) (V m c main_arg1) (V m c main_arg2))
include h

theorem arr4 : (dats m 0 c).arrAt 4 cfg0.N = gatesOut (V m c main_arg0) (V m c main_arg1) :=
  (dats m 0 c).arrAt_eq_of_cover 4 (gatesOut (V m c main_arg0) (V m c main_arg1)) (fun t _ => by
      refine (flushed4 m c t).trans ?_
      rw [in0, in1, in2, in3, column_eq, out4_eq _ _ _ h]
      refine funext fun (x : S392x16.Idx) => ?_
      refine Eq.trans ?_ (View.read_apply ..).symm
      exact congrArg (gatesOut (V m c main_arg0) (V m c main_arg1)) (emb4 t x).symm) fun i =>
    ⟨point, flush0_4 point, by
      rw [← emb4 point i]
      exact View.emb_mem_set _ _⟩

theorem arr7 : (dats m 0 c).arrAt 7 cfg0.N = chanOut (V m c main_arg0) (V m c main_arg2) :=
  (dats m 0 c).arrAt_eq_of_cover 7 (chanOut (V m c main_arg0) (V m c main_arg2)) (fun t _ => by
      refine (flushed7 m c t).trans ?_
      rw [in0, in1, in2, in3, column_eq, out7_eq _ _ _ h _ column_apply]
      refine funext fun (x : S8x16.Idx) => ?_
      refine Eq.trans ?_ (View.read_apply ..).symm
      exact congrArg (chanOut (V m c main_arg0) (V m c main_arg2)) (emb7 t x).symm) fun i =>
    ⟨point, flush0_7 point, by
      rw [← emb7 point i]
      exact View.emb_mem_set _ _⟩

theorem arr8 : (dats m 0 c).arrAt 8 cfg0.N = lossOut (V m c main_arg0) (V m c main_arg1) (V m c main_arg2) :=
  (dats m 0 c).arrAt_eq_of_cover 8 (lossOut (V m c main_arg0) (V m c main_arg1) (V m c main_arg2)) (fun t _ => by
      refine (flushed8 m c t).trans ?_
      rw [in0, in1, in2, in3, column_eq, out8_eq _ _ _ h _ column_apply]
      refine funext fun (x : S1x1.Idx) => ?_
      refine Eq.trans ?_ (View.read_apply ..).symm
      exact congrArg (lossOut (V m c main_arg0) (V m c main_arg1) (V m c main_arg2)) (emb8 t x).symm) fun i =>
    ⟨point, flush0_8 point, by
      rw [← emb8 point i]
      exact View.emb_mem_set _ _⟩

end Cert.Kernel2Ideal.Hand
-- ==== Proof.RouterClaims.lean ====
/- The claims about the router call. -/
module

public import proofs.«01_k».proof.Defs
public import proofs.«01_k».proof.Proof.RouterRef
public import proofs.«01_k».proof.Proof.RouterFinal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import Idealize.ShloMosaic.Lib.Claim
public import Idealize.ShloMosaic.Lib.ReduceAll
public import Idealize.ShloMosaic.Lib.ValueIdx

@[expose] public section

set_option maxRecDepth 16384

noncomputable section

namespace Cert.Router

open Idealize.ShloMosaic Idealize.SL.Sem Idealize.ShloMosaic.TcCoe Cert.Gates Cert.Kernel2Ideal.Hand

instance : Subsingleton (Pre_finite.S_).Idx := ⟨fun a b => funext fun x => x.elim0⟩

/-- A number whose absolute value is below infinity is finite. -/
theorem finite_of_abs (x : EReal) (h : FloatOps.cmpf (F := Ideal) (φ := .f32) .olt (FloatOps.absf (F := Ideal) (φ := .f32) x) (FloatOps.ofBits (F := Ideal) .f32 0x7F800000#32) = 1#1) :
    Fin' x := by
  have h' : (BitVec.ofBool (decide ((max x (-x) : EReal) < Ideal.ofBits .f32 0x7F800000#32))) = 1#1 := h
  rw [pos_inf] at h'
  have hlt : max x (-x) < ⊤ := by
    by_contra hn
    rw [decide_eq_false hn] at h'
    exact absurd h' (by decide)
  obtain ⟨ha, hb⟩ := max_lt_iff.mp hlt
  refine ⟨fun e => ?_, ha.ne⟩
  rw [e, EReal.neg_bot] at hb
  exact lt_irrefl _ hb

theorem finite_of_pre [Pre_finite.Facts] (x0 : FVec Ideal Pre_finite.S392x256 .f32) (x1 x2 : FVec Ideal Pre_finite.S256x16 .f32)
    (h : Pre_finite.fn (F := Ideal) x0 x1 x2 = fun _ => 1#1) : AllFinite x0 x1 x2 := by
  have e := congrFun h ix0
  dsimp only [Pre_finite.fn] at e
  obtain ⟨e, e2⟩ := IntOp.andi_eq_one.1 e
  obtain ⟨e0, e1⟩ := IntOp.andi_eq_one.1 e
  exact ⟨fun n k => finite_of_abs _ (Host.reduce_andi_all _ _ _ _ _ e0 (ix2 n k)),
    fun n k => finite_of_abs _ (Host.reduce_andi_all _ _ _ _ _ e1 (ix2 n k)),
    fun n k => finite_of_abs _ (Host.reduce_andi_all _ _ _ _ _ e2 (ix2 n k))⟩

/-- The reference's three results, as the kernel's. -/
theorem ref_gates (t : Vec Ideal Kernel2Ideal.S392x256 .f32) (w : Vec Ideal Kernel2Ideal.S256x16 .f32) :
    Reference2Ideal.Read.val_main_v24 (F := Ideal) t w = gatesOut t w := by
  refine funext fun (i : Kernel2Ideal.S392x16.Idx) => ?_
  rw [eq_ix2 i]
  exact Reference2Ideal.Hand.mask_apply t w (i 0) (i 1)

theorem ref_chan (t : Vec Ideal Kernel2Ideal.S392x256 .f32) (v : Vec Ideal Kernel2Ideal.S256x16 .f32) :
    Reference2Ideal.Read.val_main_v64 (F := Ideal) t v = chanOut t v := by
  refine funext fun (i : Kernel2Ideal.S8x16.Idx) => ?_
  rw [eq_ix2 i]
  exact Reference2Ideal.Hand.padded_apply t v (i 0) (i 1)

theorem ref_loss (t : Vec Ideal Kernel2Ideal.S392x256 .f32) (w v : Vec Ideal Kernel2Ideal.S256x16 .f32) :
    Reference2Ideal.Read.val_main_v67 (F := Ideal) t w v = lossOut t w v := by
  refine funext fun (i : Kernel2Ideal.S1x1.Idx) => ?_
  have hi : i = ix2 0 0 := funext fun a => match a with
    | ⟨0, _⟩ => Fin.ext (by show (i 0).val = 0; have : (i 0).val < 1 := (i 0).isLt; omega)
    | ⟨1, _⟩ => Fin.ext (by show (i 1).val = 0; have : (i 1).val < 1 := (i 1).isLt; omega)
  rw [hi]
  exact Reference2Ideal.Hand.loss_apply t w v

/-- The router call terminates with its arguments unchanged. -/
theorem frame_kernel : Cert.quiescent_Kernel2 := fun m g _ => Cert.Kernel2.Gen.frame m g

theorem frame_ideal : Cert.quiescent_Kernel2Ideal := fun m g _ => Cert.Kernel2Ideal.Gen.frame m g

theorem frame_ideal_finite : Cert.quiescent_Kernel2Ideal_pre_finite := fun m g _ => Cert.Kernel2Ideal.Gen.frame m g

/-- Its reference terminates with its arguments unchanged. -/
theorem frame_reference : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run (F := Ideal) m g)

theorem frame_reference_finite : Cert.quiescent_Reference2Ideal_pre_finite := fun m g _ => frame_reference m g trivial

/-- The router's gates of the tokens, gates of the channels and loss are the reference's. -/
theorem algebraic : Cert.algebraic_Kernel2Ideal_Reference2Ideal_pre_finite := by
  intro m g m' g' h same
  have hf : ∀ c, AllFinite (Cert.Kernel2Ideal.Gen.V m c Cert.Kernel2Ideal.main_arg0) (Cert.Kernel2Ideal.Gen.V m c Cert.Kernel2Ideal.main_arg1)
      (Cert.Kernel2Ideal.Gen.V m c Cert.Kernel2Ideal.main_arg2) := fun c => by
    rw [Cert.Kernel2Ideal.Gen.V_main_arg0, Cert.Kernel2Ideal.Gen.V_main_arg1, Cert.Kernel2Ideal.Gen.V_main_arg2]
    exact finite_of_pre _ _ _ (h c)
  refine ⟨fun c => gatesOut (Cert.Kernel2Ideal.Gen.V m c Cert.Kernel2Ideal.main_arg0) (Cert.Kernel2Ideal.Gen.V m c Cert.Kernel2Ideal.main_arg1),
    fun c => chanOut (Cert.Kernel2Ideal.Gen.V m c Cert.Kernel2Ideal.main_arg0) (Cert.Kernel2Ideal.Gen.V m c Cert.Kernel2Ideal.main_arg2),
    fun c => lossOut (Cert.Kernel2Ideal.Gen.V m c Cert.Kernel2Ideal.main_arg0) (Cert.Kernel2Ideal.Gen.V m c Cert.Kernel2Ideal.main_arg1)
      (Cert.Kernel2Ideal.Gen.V m c Cert.Kernel2Ideal.main_arg2), ?_, ?_⟩
  · refine (θ_run Cert.Kernel2Ideal.defs _ _).mono (fun r hr c => ?_) (Cert.Kernel2Ideal.Value.run_blocks (F := Ideal) m g)
    obtain ⟨r4, _, _, r7, r8, _, kept⟩ := hr c
    exact ⟨r4.trans (arr4 m c (hf c)), r7.trans (arr7 m c (hf c)), r8.trans (arr8 m c (hf c)), kept⟩
  · refine (θ_run Cert.Reference2Ideal.defs _ _).mono (fun r hr c => ?_) (Cert.Reference2Ideal.Value.run (F := Ideal) m' g')
    obtain ⟨r0, r1, r2, kept⟩ := hr c
    obtain rfl : c = 0 := Subsingleton.elim _ _
    obtain ⟨e0, e1, e2⟩ := same 0
    refine ⟨r0.trans ((Cert.Reference2Ideal.Read.val_main_v24_eq _ _).trans ?_), r1.trans ((Cert.Reference2Ideal.Read.val_main_v64_eq _ _).trans ?_),
      r2.trans ((Cert.Reference2Ideal.Read.val_main_v67_eq _ _).trans ?_), kept⟩
    · refine (ref_gates _ _).trans ?_
      dsimp only
      rw [e0, e1, Cert.Kernel2Ideal.Gen.V_main_arg0, Cert.Kernel2Ideal.Gen.V_main_arg1]
    · refine (ref_chan _ _).trans ?_
      dsimp only
      rw [e0, e2, Cert.Kernel2Ideal.Gen.V_main_arg0, Cert.Kernel2Ideal.Gen.V_main_arg2]
    · refine (ref_loss _ _ _).trans ?_
      dsimp only
      rw [e0, e1, e2, Cert.Kernel2Ideal.Gen.V_main_arg0, Cert.Kernel2Ideal.Gen.V_main_arg1, Cert.Kernel2Ideal.Gen.V_main_arg2]

end Cert.Router

end
-- ==== Proof.lean ====
/- The certificate: the frames, the preservation and the equality of the ideal kernel with the reference. -/
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.RefValue
public import proofs.«01_k».proof.Proof.TableKernel
public import proofs.«01_k».proof.Proof.Algebraic
public import proofs.«01_k».proof.Proof.RouterClaims
public import proofs.«01_k».proof.Proof.Gen.ReferenceIdeal
public import proofs.«01_k».proof.Proof.Gen.Pre_named
public import proofs.«01_k».proof.Proof.Gen.Pre_routed
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The kernel terminates with its arguments unchanged, when the routing words name experts. -/
theorem frame_kernel : Cert.quiescent_Kernel := fun m g h =>
  Cert.Kernel.Gen.frame m g (Cert.Kernel.Hand.ok_of_named m (Cert.Words.named_of_pre _ _ _ _ _ _ _ _ _ _ _ _ _ _ _ _ _ _ _ (h 0)))

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Pre_named.Gen.facts, Cert.Pre_routed.Gen.facts, Cert.Pre_finite.Gen.facts,
    frame_kernel, frame_ideal, frame_ideal_routed, frame_reference, frame_reference_routed,
    Cert.Router.frame_kernel, Cert.Router.frame_ideal, Cert.Router.frame_ideal_finite, Cert.Router.frame_reference, Cert.Router.frame_reference_finite,
    trivial, algebraic, trivial, Cert.Router.algebraic⟩

end Cert.Proof

end
